-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84_0)) (v1 : (c : Dev Cert.KernelIdeal.nD) → Buf (Elt Ideal) ((c.tc : Thread Cert.KernelIdeal.nD Cert.KernelIdeal.τ).loc Cert.KernelIdeal.main_v85)) (v2 : (c : Dev Cert.KernelIdeal.nD) → Buf (Elt Ideal) ((c.tc : Thread Cert.KernelIdeal.nD Cert.KernelIdeal.τ).loc Cert.KernelIdeal.main_v95)) (v3 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_0) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_v88) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S10000x128 : Shape := ⟨2, ![10000, 128]⟩
abbrev S10000x3 : Shape := ⟨2, ![10000, 3]⟩
abbrev S10000 : Shape := ⟨1, ![10000]⟩
abbrev S2x320000 : Shape := ⟨2, ![2, 320000]⟩
abbrev S10000x2 : Shape := ⟨2, ![10000, 2]⟩
abbrev S_ : Shape := ⟨0, ![]⟩

class Facts : Prop where
  slices_S10000x3_S10000x2_0_0 : S10000x3.Slices ![0, 0] S10000x2
  bcast_S_S10000x2 : S_.BroadcastsInDim S10000x2 (![] : Fin 0 → Fin S10000x2.rank)
  reducesTo_S10000x2_S_d0_1 : S10000x2.ReducesTo [0, 1] S_
  h_S_ : 0 < S_.numel
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S10000x128 .f32) (main_arg1 : FVec F S10000x3 .f32) (main_arg2 : IVec S10000 32) (main_arg3 : IVec S2x320000 32) : IVec S_ 1 :=
  let main_v0 : FVec F S10000x2 .f32 := (extractStridedSlice S10000x2 ![0, 0] · slices_S10000x3_S10000x2_0_0) main_arg1
  let main_cst : FVec F S_ .f32 := constant S_ .f32 0xC2C80000#32
  let main_v1 : FVec F S10000x2 .f32 := broadcastInDim S10000x2 ![] bcast_S_S10000x2 main_cst
  let main_v2 : IVec S10000x2 1 := cmpf .oge main_v0 main_v1
  let main_cst_0 : FVec F S_ .f32 := constant S_ .f32 0x42C80000#32
  let main_v3 : FVec F S10000x2 .f32 := broadcastInDim S10000x2 ![] bcast_S_S10000x2 main_cst_0
  let main_v4 : IVec S10000x2 1 := cmpf .ole main_v0 main_v3
  let main_v5 : IVec S10000x2 1 := andi main_v2 main_v4
  let main_c : IVec S_ 1 := constantI S_ 1 1#1
  let main_v6 : IVec S_ 1 := (fun x v => Host.reduce IntOp.andi x v reducesTo_S10000x2_S_d0_1 h_S_) main_v5 main_c
  let main_c_1 : IVec S_ 32 := constantI S_ 32 0#32
  let main_v7 : IVec S10000 32 := broadcastInDim S10000 ![] bcast_S_S10000 main_c_1
  let main_v8 : IVec S10000 1 := cmpi .sge main_arg2 main_v7
  let main_c_2 : IVec S_ 32 := constantI S_ 32 8#32
  let main_v9 : IVec S10000 32 := broadcastInDim S10000 ![] bcast_S_S10000 main_c_2
  let main_v10 : IVec S10000 1 := cmpi .slt main_arg2 main_v9
  let main_v11 : IVec S10000 1 := andi main_v8 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v6 main_v12
  main_v13
-- ==== Kernel.lean ====
abbrev S10000x128 : Shape := ⟨2, ![10000, 128]⟩
abbrev S10000x3 : Shape := ⟨2, ![10000, 3]⟩
abbrev S10000 : Shape := ⟨1, ![10000]⟩
abbrev S2x320000 : Shape := ⟨2, ![2, 320000]⟩
abbrev S2 : Shape := ⟨1, ![2]⟩
abbrev S10000x2 : Shape := ⟨2, ![10000, 2]⟩
abbrev S_ : Shape := ⟨0, ![]⟩
abbrev S1x2 : Shape := ⟨2, ![1, 2]⟩
abbrev S1 : Shape := ⟨1, ![1]⟩
abbrev S10000x1 : Shape := ⟨2, ![10000, 1]⟩
abbrev S1x10000 : Shape := ⟨2, ![1, 10000]⟩
abbrev S9999 : Shape := ⟨1, ![9999]⟩
abbrev S10000x8 : Shape := ⟨2, ![10000, 8]⟩
abbrev S1x128 : Shape := ⟨2, ![1, 128]⟩
abbrev S1x8 : Shape := ⟨2, ![1, 8]⟩
abbrev S2x320000x1 : Shape := ⟨3, ![2, 320000, 1]⟩

abbrev nBuf : Space → Nat
  | .hbm => 197
  | .vmem => 4
  | .smem => 1
  | _ => 0

abbrev hbmTy0_0 (i : Nat) : BufTy := match i % 128 with
  | 0 => ⟨S10000x128, .f32⟩
  | 1 => ⟨S10000x3, .f32⟩
  | 2 => ⟨S10000, .i32⟩
  | 3 => ⟨S2x320000, .i32⟩
  | 4 => ⟨S2, .f32⟩
  | 5 => ⟨S10000x2, .f32⟩
  | 6 => ⟨S_, .f32⟩
  | 7 => ⟨S2, .f32⟩
  | 8 => ⟨S_, .f32⟩
  | 9 => ⟨S2, .f32⟩
  | 10 => ⟨S1x2, .f32⟩
  | 11 => ⟨S10000x2, .f32⟩
  | 12 => ⟨S10000x2, .f32⟩
  | 13 => ⟨S1x2, .f32⟩
  | 14 => ⟨S10000x2, .f32⟩
  | 15 => ⟨S10000x2, .f32⟩
  | 16 => ⟨S10000x2, .f32⟩
  | 17 => ⟨S10000x2, .i32⟩
  | 18 => ⟨S2, .f32⟩
  | 19 => ⟨S2, .f32⟩
  | 20 => ⟨S2, .f32⟩
  | 21 => ⟨S_, .f32⟩
  | 22 => ⟨S2, .f32⟩
  | 23 => ⟨S2, .f32⟩
  | 24 => ⟨S2, .i32⟩
  | 25 => ⟨S1, .i32⟩
  | 26 => ⟨S_, .i32⟩
  | 27 => ⟨S1, .i32⟩
  | 28 => ⟨S_, .i32⟩
  | 29 => ⟨S_, .i32⟩
  | 30 => ⟨S10000, .i32⟩
  | 31 => ⟨S10000, .i32⟩
  | 32 => ⟨S10000x1, .i32⟩
  | 33 => ⟨S10000, .i32⟩
  | 34 => ⟨S10000, .i32⟩
  | 35 => ⟨S10000x1, .i32⟩
  | 36 => ⟨S10000, .i32⟩
  | 37 => ⟨S1, .i32⟩
  | 38 => ⟨S_, .i32⟩
  | 39 => ⟨S10000, .i32⟩
  | 40 => ⟨S10000, .i32⟩
  | 41 => ⟨S10000, .i32⟩
  | 42 => ⟨S10000x1, .i32⟩
  | 43 => ⟨S1x10000, .i32⟩
  | 44 => ⟨S1x10000, .i32⟩
  | 45 => ⟨S1x10000, .i32⟩
  | 46 => ⟨S10000, .i32⟩
  | 47 => ⟨S10000, .i32⟩
  | 48 => ⟨S10000, .i32⟩
  | 49 => ⟨S10000, .i32⟩
  | 50 => ⟨S_, .i32⟩
  | 51 => ⟨S10000, .i32⟩
  | 52 => ⟨S10000, .i1⟩
  | 53 => ⟨S_, .i32⟩
  | 54 => ⟨S10000, .i32⟩
  | 55 => ⟨S10000, .i32⟩
  | 56 => ⟨S10000, .i32⟩
  | 57 => ⟨S10000x1, .i32⟩
  | 58 => ⟨S10000, .i32⟩
  | 59 => ⟨S_, .i1⟩
  | 60 => ⟨S10000, .i1⟩
  | 61 => ⟨S9999, .i32⟩
  | 62 => ⟨S9999, .i32⟩
  | 63 => ⟨S9999, .i1⟩
  | 64 => ⟨S_, .i1⟩
  | 65 => ⟨S9999, .i1⟩
  | 66 => ⟨S_, .i32⟩
  | 67 => ⟨S1, .i32⟩
  | 68 => ⟨S10000, .i1⟩
  | 69 => ⟨S10000, .i32⟩
  | 70 => ⟨S_, .i32⟩
  | 71 => ⟨S_, .i32⟩
  | 72 => ⟨S10000, .i32⟩
  | 73 => ⟨S_, .i32⟩
  | 74 => ⟨S10000, .i32⟩
  | 75 => ⟨S_, .i32⟩
  | 76 => ⟨S10000, .i32⟩
  | 77 => ⟨S10000, .i1⟩
  | 78 => ⟨S_, .i32⟩
  | 79 => ⟨S10000, .i32⟩
  | 80 => ⟨S10000, .i32⟩
  | 81 => ⟨S10000, .i32⟩
  | 82 => ⟨S10000x1, .i32⟩
  | 83 => ⟨S_, .i32⟩
  | 84 => ⟨S10000, .i32⟩
  | 85 => ⟨S10000, .i32⟩
  | 86 => ⟨S_, .i32⟩
  | 87 => ⟨S_, .i32⟩
  | 88 => ⟨S10000, .i32⟩
  | 89 => ⟨S_, .i32⟩
  | 90 => ⟨S_, .i32⟩
  | 91 => ⟨S10000, .i32⟩
  | 92 => ⟨S10000, .i32⟩
  | 93 => ⟨S10000, .i32⟩
  | 94 => ⟨S_, .i32⟩
  | 95 => ⟨S10000, .i32⟩
  | 96 => ⟨S10000, .i1⟩
  | 97 => ⟨S10000, .i32⟩
  | 98 => ⟨S10000, .i32⟩
  | 99 => ⟨S_, .i32⟩
  | 100 => ⟨S10000, .i32⟩
  | 101 => ⟨S10000, .i1⟩
  | 102 => ⟨S10000, .i1⟩
  | 103 => ⟨S_, .i32⟩
  | 104 => ⟨S10000, .i32⟩
  | 105 => ⟨S10000, .i32⟩
  | 106 => ⟨S10000, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S10000, .i32⟩
  | 114 => ⟨S10000, .i32⟩
  | 115 => ⟨S_, .i32⟩
  | 116 => ⟨S10000, .i32⟩
  | 117 => ⟨S10000, .i1⟩
  | 118 => ⟨S_, .i32⟩
  | 119 => ⟨S10000, .i32⟩
  | 120 => ⟨S10000, .i1⟩
  | 121 => ⟨S_, .i32⟩
  | 122 => ⟨S_, .i1⟩
  | 123 => ⟨S10000, .i1⟩
  | 124 => ⟨S10000, .i1⟩
  | 125 => ⟨S10000, .i1⟩
  | 126 => ⟨S10000, .i32⟩
  | 127 => ⟨S10000, .i32⟩
  | _ => ⟨S10000x128, .f32⟩

abbrev hbmTy0_1 (i : Nat) : BufTy := match i % 128 with
  | 0 => ⟨S10000, .i32⟩
  | 1 => ⟨S10000, .i32⟩
  | 2 => ⟨S_, .i32⟩
  | 3 => ⟨S_, .i32⟩
  | 4 => ⟨S1, .i32⟩
  | 5 => ⟨S10000, .i32⟩
  | 6 => ⟨S10000, .i32⟩
  | 7 => ⟨S10000, .i1⟩
  | 8 => ⟨S_, .i32⟩
  | 9 => ⟨S_, .i32⟩
  | 10 => ⟨S10000, .i32⟩
  | 11 => ⟨S10000, .i32⟩
  | 12 => ⟨S_, .i32⟩
  | 13 => ⟨S10000, .i32⟩
  | 14 => ⟨S10000, .i1⟩
  | 15 => ⟨S_, .i32⟩
  | 16 => ⟨S10000, .i32⟩
  | 17 => ⟨S10000, .i32⟩
  | 18 => ⟨S10000, .i32⟩
  | 19 => ⟨S10000x1, .i32⟩
  | 20 => ⟨S10000, .i32⟩
  | 21 => ⟨S10000, .i32⟩
  | 22 => ⟨S10000, .i32⟩
  | 23 => ⟨S_, .i32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S_, .i32⟩
  | 32 => ⟨S_, .i32⟩
  | 33 => ⟨S10000, .i32⟩
  | 34 => ⟨S_, .i32⟩
  | 35 => ⟨S10000, .i32⟩
  | 36 => ⟨S10000, .i32⟩
  | 37 => ⟨S_, .i32⟩
  | 38 => ⟨S10000, .i32⟩
  | 39 => ⟨S_, .i32⟩
  | 40 => ⟨S10000, .i32⟩
  | 41 => ⟨S10000, .i1⟩
  | 42 => ⟨S_, .i32⟩
  | 43 => ⟨S10000, .i32⟩
  | 44 => ⟨S10000, .i32⟩
  | 45 => ⟨S10000, .i32⟩
  | 46 => ⟨S10000x1, .i32⟩
  | 47 => ⟨S_, .f32⟩
  | 48 => ⟨S10000x1, .f32⟩
  | 49 => ⟨S10000, .f32⟩
  | 50 => ⟨S10000x1, .f32⟩
  | 51 => ⟨S_, .f32⟩
  | 52 => ⟨S10000x3, .f32⟩
  | 53 => ⟨S10000x8, .f32⟩
  | 54 => ⟨S10000x128, .f32⟩
  | 55 => ⟨S10000x8, .f32⟩
  | 56 => ⟨S10000x3, .f32⟩
  | 57 => ⟨S10000x1, .f32⟩
  | 58 => ⟨S10000, .f32⟩
  | 59 => ⟨S10000, .i32⟩
  | 60 => ⟨S_, .i32⟩
  | 61 => ⟨S2x320000, .i32⟩
  | 62 => ⟨S2x320000, .i1⟩
  | 63 => ⟨S_, .i32⟩
  | 64 => ⟨S2x320000, .i32⟩
  | 65 => ⟨S2x320000, .i32⟩
  | 66 => ⟨S2x320000, .i32⟩
  | 67 => ⟨S2x320000x1, .i32⟩
  | 68 => ⟨S2x320000, .i32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x8, .f32⟩
  | .local _ .vmem, ⟨2, _⟩ => ⟨S10000x128, .f32⟩
  | .local _ .vmem, ⟨3, _⟩ => ⟨S10000x8, .f32⟩
  | .local _ .smem, ⟨0, _⟩ => ⟨S10000, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3_0 : Ref sig .tc := ⟨.hbm, 48, rfl⟩
abbrev main_v34_2 : Ref sig .tc := ⟨.hbm, 49, rfl⟩
abbrev main_call0_c : Ref sig .tc := ⟨.hbm, 50, rfl⟩
abbrev main_call0_v4 : Ref sig .tc := ⟨.hbm, 51, rfl⟩
abbrev main_call0_v5 : Ref sig .tc := ⟨.hbm, 52, rfl⟩
abbrev main_call0_c_0 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_v34_0 : Ref sig .tc := ⟨.hbm, 58, rfl⟩
abbrev main_call0_c_1 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_c_2 : Ref sig .tc := ⟨.hbm, 64, rfl⟩
abbrev main_call0_v15 : Ref sig .tc := ⟨.hbm, 65, rfl⟩
abbrev main_call0_c_3 : Ref sig .tc := ⟨.hbm, 66, rfl⟩
abbrev main_call0_v16 : Ref sig .tc := ⟨.hbm, 67, rfl⟩
abbrev main_v34_1 : Ref sig .tc := ⟨.hbm, 68, rfl⟩
abbrev main_call1_v0 : Ref sig .tc := ⟨.hbm, 69, rfl⟩
abbrev main_call1_call0_c : Ref sig .tc := ⟨.hbm, 70, rfl⟩
abbrev main_call1_call0_v0 : Ref sig .tc := ⟨.hbm, 71, rfl⟩
abbrev main_v35 : Ref sig .tc := ⟨.hbm, 72, rfl⟩
abbrev main_c : Ref sig .tc := ⟨.hbm, 73, rfl⟩
abbrev main_v36 : Ref sig .tc := ⟨.hbm, 74, rfl⟩
abbrev main_c_3 : Ref sig .tc := ⟨.hbm, 75, rfl⟩
abbrev main_v37 : Ref sig .tc := ⟨.hbm, 76, rfl⟩
abbrev main_v38 : Ref sig .tc := ⟨.hbm, 77, rfl⟩
abbrev main_c_4 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_5 : Ref sig .tc := ⟨.hbm, 83, rfl⟩
abbrev main_v43 : Ref sig .tc := ⟨.hbm, 84, rfl⟩
abbrev main_v44 : Ref sig .tc := ⟨.hbm, 85, rfl⟩
abbrev main_call2_call0_c : Ref sig .tc := ⟨.hbm, 86, rfl⟩
abbrev main_call2_call0_v0 : Ref sig .tc := ⟨.hbm, 87, rfl⟩
abbrev main_v45 : Ref sig .tc := ⟨.hbm, 88, rfl⟩
abbrev main_c_6 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v46 : Ref sig .tc := ⟨.hbm, 106, rfl⟩
abbrev main_c_7 : Ref sig .tc := ⟨.hbm, 107, rfl⟩
abbrev main_call4_v0 : Ref sig .tc := ⟨.hbm, 108, rfl⟩
abbrev main_call4_c : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_1 : Ref sig .tc := ⟨.hbm, 115, rfl⟩
abbrev main_call4_v5 : Ref sig .tc := ⟨.hbm, 116, rfl⟩
abbrev main_call4_v6 : Ref sig .tc := ⟨.hbm, 117, rfl⟩
abbrev main_call4_c_2 : Ref sig .tc := ⟨.hbm, 118, rfl⟩
abbrev main_call4_v7 : Ref sig .tc := ⟨.hbm, 119, rfl⟩
abbrev main_call4_v8 : Ref sig .tc := ⟨.hbm, 120, rfl⟩
abbrev main_call4_c_3 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_v47 : Ref sig .tc := ⟨.hbm, 128, rfl⟩
abbrev main_v48 : Ref sig .tc := ⟨.hbm, 129, rfl⟩
abbrev main_c_8 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_c_9 : Ref sig .tc := ⟨.hbm, 136, rfl⟩
abbrev main_call5_v0 : Ref sig .tc := ⟨.hbm, 137, rfl⟩
abbrev main_call5_v1 : Ref sig .tc := ⟨.hbm, 138, rfl⟩
abbrev main_v54 : Ref sig .tc := ⟨.hbm, 139, rfl⟩
abbrev main_c_10 : Ref sig .tc := ⟨.hbm, 140, rfl⟩
abbrev main_v55 : Ref sig .tc := ⟨.hbm, 141, rfl⟩
abbrev main_v56 : Ref sig .tc := ⟨.hbm, 142, rfl⟩
abbrev main_c_11 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_c_12 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_c_13 : Ref sig .tc := ⟨.hbm, 155, rfl⟩
abbrev main_call6_v0 : Ref sig .tc := ⟨.hbm, 156, rfl⟩
abbrev main_v67 : Ref sig .tc := ⟨.hbm, 157, rfl⟩
abbrev main_call7_v0 : Ref sig .tc := ⟨.hbm, 158, rfl⟩
abbrev main_call7_call0_c : Ref sig .tc := ⟨.hbm, 159, rfl⟩
abbrev main_call7_call0_v0 : Ref sig .tc := ⟨.hbm, 160, rfl⟩
abbrev main_v68 : Ref sig .tc := ⟨.hbm, 161, rfl⟩
abbrev main_c_14 : Ref sig .tc := ⟨.hbm, 162, rfl⟩
abbrev main_v69 : Ref sig .tc := ⟨.hbm, 163, rfl⟩
abbrev main_v70 : Ref sig .tc := ⟨.hbm, 164, rfl⟩
abbrev main_c_15 : Ref sig .tc := ⟨.hbm, 165, rfl⟩
abbrev main_v71 : Ref sig .tc := ⟨.hbm, 166, rfl⟩
abbrev main_c_16 : Ref sig .tc := ⟨.hbm, 167, rfl⟩
abbrev main_v72 : Ref sig .tc := ⟨.hbm, 168, rfl⟩
abbrev main_v73 : Ref sig .tc := ⟨.hbm, 169, rfl⟩
abbrev main_c_17 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_cst_18 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_cst_19 : Ref sig .tc := ⟨.hbm, 179, rfl⟩
abbrev main_v82 : Ref sig .tc := ⟨.hbm, 180, rfl⟩
abbrev main_v83 : Ref sig .tc := ⟨.hbm, 181, rfl⟩
abbrev main_v84_0 : Ref sig .tc := ⟨.hbm, 182, rfl⟩
abbrev main_v84_1 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_c_20 : Ref sig .tc := ⟨.hbm, 188, rfl⟩
abbrev main_v89 : Ref sig .tc := ⟨.hbm, 189, rfl⟩
abbrev main_v90 : Ref sig .tc := ⟨.hbm, 190, rfl⟩
abbrev main_c_21 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v78 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v78.idx], fun | 0 => main_v78.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c10000_i32 : BitVec 32 := 10000#32
  let v4 : BitVec 32 := Scalar.addi c0_i32 c10000_i32
  let c1_i32 : BitVec 32 := 1#32
  ⟨c0_i32, v4, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let v33 : Index := Scalar.indexCast arg6
  ![v33.toNat]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let v35 : Index := Scalar.indexCast arg6
  let c0_18 : Index := 0#32
  ![v35.toNat, 0]
def k0_off3 (v34 : BitVec 32) : Fin 2 → Nat :=
  let v37 : Index := Scalar.indexCast v34
  let c0_19 : Index := 0#32
  ![v37.toNat, 0]

def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let v43 : Index := Scalar.indexCast arg6
  let c0_21 : Index := 0#32
  ![v43.toNat, 0]
def k0_off5 (v34 : BitVec 32) : Fin 2 → Nat :=
  let v46 : Index := Scalar.indexCast v34
  let c0_22 : Index := 0#32
  ![v46.toNat, 0]

def k0_chk1 (v34 : BitVec 32) : Prop :=
  (∀ a, (k0_off3 v34) a + S1x128.size a ≤ S10000x128.size a) ∧
  (∀ a, (k0_off5 v34) a + S1x8.size a ≤ S10000x8.size a)
theorem k0_off3_inb : ∀ (v34 : BitVec 32) (k0_hw1 : k0_chk1 v34), ∀ a, (k0_off3 v34) a + S1x128.size a ≤ S10000x128.size a := fun v34 k0_hw1 => k0_hw1.1
theorem k0_off5_inb : ∀ (v34 : BitVec 32) (k0_hw1 : k0_chk1 v34), ∀ a, (k0_off5 v34) a + S1x8.size a ≤ S10000x8.size a := fun v34 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S10000x128 : Shape := ⟨2, ![10000, 128]⟩
abbrev S10000x3 : Shape := ⟨2, ![10000, 3]⟩
abbrev S10000 : Shape := ⟨1, ![10000]⟩
abbrev S2x320000 : Shape := ⟨2, ![2, 320000]⟩
abbrev S2 : Shape := ⟨1, ![2]⟩
abbrev S10000x2 : Shape := ⟨2, ![10000, 2]⟩
abbrev S_ : Shape := ⟨0, ![]⟩
abbrev S1x2 : Shape := ⟨2, ![1, 2]⟩
abbrev S10000x1 : Shape := ⟨2, ![10000, 1]⟩
abbrev S1 : Shape := ⟨1, ![1]⟩
abbrev S1x10000 : Shape := ⟨2, ![1, 10000]⟩
abbrev S9999 : Shape := ⟨1, ![9999]⟩
abbrev S10000x10000 : Shape := ⟨2, ![10000, 10000]⟩
abbrev S10000x10000x1 : Shape := ⟨3, ![10000, 10000, 1]⟩
abbrev S1x10000x128 : Shape := ⟨3, ![1, 10000, 128]⟩
abbrev S10000x10000x128 : Shape := ⟨3, ![10000, 10000, 128]⟩
abbrev S2x320000x1 : Shape := ⟨3, ![2, 320000, 1]⟩

abbrev nBuf : Space → Nat
  | .hbm => 226
  | .vmem => 0
  | .smem => 0
  | _ => 0

abbrev hbmTy0_0 (i : Nat) : BufTy := match i % 128 with
  | 0 => ⟨S10000x128, .f32⟩
  | 1 => ⟨S10000x3, .f32⟩
  | 2 => ⟨S10000, .i32⟩
  | 3 => ⟨S2x320000, .i32⟩
  | 4 => ⟨S2, .f32⟩
  | 5 => ⟨S10000x2, .f32⟩
  | 6 => ⟨S_, .f32⟩
  | 7 => ⟨S2, .f32⟩
  | 8 => ⟨S_, .f32⟩
  | 9 => ⟨S2, .f32⟩
  | 10 => ⟨S1x2, .f32⟩
  | 11 => ⟨S10000x2, .f32⟩
  | 12 => ⟨S10000x2, .f32⟩
  | 13 => ⟨S1x2, .f32⟩
  | 14 => ⟨S10000x2, .f32⟩
  | 15 => ⟨S10000x2, .f32⟩
  | 16 => ⟨S10000x2, .f32⟩
  | 17 => ⟨S10000x2, .i32⟩
  | 18 => ⟨S2, .f32⟩
  | 19 => ⟨S2, .f32⟩
  | 20 => ⟨S2, .f32⟩
  | 21 => ⟨S_, .f32⟩
  | 22 => ⟨S2, .f32⟩
  | 23 => ⟨S2, .f32⟩
  | 24 => ⟨S2, .i32⟩
  | 25 => ⟨S10000x1, .i32⟩
  | 26 => ⟨S10000, .i32⟩
  | 27 => ⟨S10000x1, .i32⟩
  | 28 => ⟨S10000, .i32⟩
  | 29 => ⟨S1, .i32⟩
  | 30 => ⟨S_, .i32⟩
  | 31 => ⟨S10000, .i32⟩
  | 32 => ⟨S10000, .i32⟩
  | 33 => ⟨S10000, .i32⟩
  | 34 => ⟨S1, .i32⟩
  | 35 => ⟨S_, .i32⟩
  | 36 => ⟨S1, .i32⟩
  | 37 => ⟨S_, .i32⟩
  | 38 => ⟨S_, .i32⟩
  | 39 => ⟨S10000, .i32⟩
  | 40 => ⟨S10000, .i32⟩
  | 41 => ⟨S10000, .i32⟩
  | 42 => ⟨S10000x1, .i32⟩
  | 43 => ⟨S1x10000, .i32⟩
  | 44 => ⟨S1x10000, .i32⟩
  | 45 => ⟨S1x10000, .i32⟩
  | 46 => ⟨S10000, .i32⟩
  | 47 => ⟨S10000, .i32⟩
  | 48 => ⟨S10000, .i32⟩
  | 49 => ⟨S10000, .i32⟩
  | 50 => ⟨S_, .i32⟩
  | 51 => ⟨S10000, .i32⟩
  | 52 => ⟨S10000, .i1⟩
  | 53 => ⟨S_, .i32⟩
  | 54 => ⟨S10000, .i32⟩
  | 55 => ⟨S10000, .i32⟩
  | 56 => ⟨S10000, .i32⟩
  | 57 => ⟨S10000x1, .i32⟩
  | 58 => ⟨S10000, .i32⟩
  | 59 => ⟨S_, .i1⟩
  | 60 => ⟨S10000, .i1⟩
  | 61 => ⟨S9999, .i32⟩
  | 62 => ⟨S9999, .i32⟩
  | 63 => ⟨S9999, .i1⟩
  | 64 => ⟨S_, .i1⟩
  | 65 => ⟨S9999, .i1⟩
  | 66 => ⟨S_, .i32⟩
  | 67 => ⟨S1, .i32⟩
  | 68 => ⟨S10000, .i1⟩
  | 69 => ⟨S10000, .i32⟩
  | 70 => ⟨S_, .i32⟩
  | 71 => ⟨S_, .i32⟩
  | 72 => ⟨S10000, .i32⟩
  | 73 => ⟨S_, .i32⟩
  | 74 => ⟨S10000, .i32⟩
  | 75 => ⟨S_, .i32⟩
  | 76 => ⟨S10000, .i32⟩
  | 77 => ⟨S10000, .i1⟩
  | 78 => ⟨S_, .i32⟩
  | 79 => ⟨S10000, .i32⟩
  | 80 => ⟨S10000, .i32⟩
  | 81 => ⟨S10000, .i32⟩
  | 82 => ⟨S10000x1, .i32⟩
  | 83 => ⟨S_, .i32⟩
  | 84 => ⟨S10000, .i32⟩
  | 85 => ⟨S10000, .i32⟩
  | 86 => ⟨S_, .i32⟩
  | 87 => ⟨S_, .i32⟩
  | 88 => ⟨S10000, .i32⟩
  | 89 => ⟨S_, .i32⟩
  | 90 => ⟨S_, .i32⟩
  | 91 => ⟨S10000, .i32⟩
  | 92 => ⟨S10000, .i32⟩
  | 93 => ⟨S10000, .i32⟩
  | 94 => ⟨S_, .i32⟩
  | 95 => ⟨S10000, .i32⟩
  | 96 => ⟨S10000, .i1⟩
  | 97 => ⟨S10000, .i32⟩
  | 98 => ⟨S10000, .i32⟩
  | 99 => ⟨S_, .i32⟩
  | 100 => ⟨S10000, .i32⟩
  | 101 => ⟨S10000, .i1⟩
  | 102 => ⟨S10000, .i1⟩
  | 103 => ⟨S_, .i32⟩
  | 104 => ⟨S10000, .i32⟩
  | 105 => ⟨S10000, .i32⟩
  | 106 => ⟨S10000, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S10000, .i32⟩
  | 114 => ⟨S10000, .i32⟩
  | 115 => ⟨S_, .i32⟩
  | 116 => ⟨S10000, .i32⟩
  | 117 => ⟨S10000, .i1⟩
  | 118 => ⟨S_, .i32⟩
  | 119 => ⟨S10000, .i32⟩
  | 120 => ⟨S10000, .i1⟩
  | 121 => ⟨S_, .i32⟩
  | 122 => ⟨S_, .i1⟩
  | 123 => ⟨S10000, .i1⟩
  | 124 => ⟨S10000, .i1⟩
  | 125 => ⟨S10000, .i1⟩
  | 126 => ⟨S10000, .i32⟩
  | 127 => ⟨S10000, .i32⟩
  | _ => ⟨S10000x128, .f32⟩

abbrev hbmTy0_1 (i : Nat) : BufTy := match i % 128 with
  | 0 => ⟨S10000, .i32⟩
  | 1 => ⟨S10000, .i32⟩
  | 2 => ⟨S_, .i32⟩
  | 3 => ⟨S_, .i32⟩
  | 4 => ⟨S1, .i32⟩
  | 5 => ⟨S10000, .i32⟩
  | 6 => ⟨S10000, .i32⟩
  | 7 => ⟨S10000, .i1⟩
  | 8 => ⟨S_, .i32⟩
  | 9 => ⟨S_, .i32⟩
  | 10 => ⟨S10000, .i32⟩
  | 11 => ⟨S10000, .i32⟩
  | 12 => ⟨S_, .i32⟩
  | 13 => ⟨S10000, .i32⟩
  | 14 => ⟨S10000, .i1⟩
  | 15 => ⟨S_, .i32⟩
  | 16 => ⟨S10000, .i32⟩
  | 17 => ⟨S10000, .i32⟩
  | 18 => ⟨S10000, .i32⟩
  | 19 => ⟨S10000x1, .i32⟩
  | 20 => ⟨S10000, .i32⟩
  | 21 => ⟨S10000, .i32⟩
  | 22 => ⟨S10000, .i32⟩
  | 23 => ⟨S_, .i32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S_, .i32⟩
  | 32 => ⟨S_, .i32⟩
  | 33 => ⟨S10000, .i32⟩
  | 34 => ⟨S_, .i32⟩
  | 35 => ⟨S10000, .i32⟩
  | 36 => ⟨S10000, .i32⟩
  | 37 => ⟨S_, .i32⟩
  | 38 => ⟨S10000, .i32⟩
  | 39 => ⟨S_, .i32⟩
  | 40 => ⟨S10000, .i32⟩
  | 41 => ⟨S10000, .i1⟩
  | 42 => ⟨S_, .i32⟩
  | 43 => ⟨S10000, .i32⟩
  | 44 => ⟨S10000, .i32⟩
  | 45 => ⟨S10000, .i32⟩
  | 46 => ⟨S10000x1, .i32⟩
  | 47 => ⟨S10000, .i32⟩
  | 48 => ⟨S1x10000, .i32⟩
  | 49 => ⟨S10000x10000, .i32⟩
  | 50 => ⟨S10000x10000, .i32⟩
  | 51 => ⟨S10000x10000, .i1⟩
  | 52 => ⟨S10000x10000x1, .i1⟩
  | 53 => ⟨S1x10000x128, .f32⟩
  | 54 => ⟨S_, .f32⟩
  | 55 => ⟨S_, .f32⟩
  | 56 => ⟨S10000x10000x128, .i1⟩
  | 57 => ⟨S10000x10000x128, .f32⟩
  | 58 => ⟨S10000x10000x128, .f32⟩
  | 59 => ⟨S10000x10000x128, .f32⟩
  | 60 => ⟨S_, .f32⟩
  | 61 => ⟨S10000x128, .f32⟩
  | 62 => ⟨S_, .f32⟩
  | 63 => ⟨S10000x128, .f32⟩
  | 64 => ⟨S10000x128, .i1⟩
  | 65 => ⟨S_, .f32⟩
  | 66 => ⟨S_, .f32⟩
  | 67 => ⟨S10000x128, .f32⟩
  | 68 => ⟨S10000x128, .f32⟩
  | 69 => ⟨S_, .f32⟩
  | 70 => ⟨S10000, .f32⟩
  | 71 => ⟨S_, .f32⟩
  | 72 => ⟨S10000, .f32⟩
  | 73 => ⟨S10000x1, .i32⟩
  | 74 => ⟨S10000, .f32⟩
  | 75 => ⟨S_, .f32⟩
  | 76 => ⟨S10000x3, .f32⟩
  | 77 => ⟨S10000x1, .i32⟩
  | 78 => ⟨S10000x3, .f32⟩
  | 79 => ⟨S_, .f32⟩
  | 80 => ⟨S10000, .f32⟩
  | 81 => ⟨S10000, .f32⟩
  | 82 => ⟨S10000x1, .f32⟩
  | 83 => ⟨S10000x3, .f32⟩
  | 84 => ⟨S10000x3, .f32⟩
  | 85 => ⟨S_, .i32⟩
  | 86 => ⟨S10000, .i32⟩
  | 87 => ⟨S10000x1, .i32⟩
  | 88 => ⟨S10000, .i32⟩
  | 89 => ⟨S_, .i32⟩
  | 90 => ⟨S2x320000, .i32⟩
  | 91 => ⟨S2x320000, .i1⟩
  | 92 => ⟨S_, .i32⟩
  | 93 => ⟨S2x320000, .i32⟩
  | 94 => ⟨S2x320000, .i32⟩
  | 95 => ⟨S2x320000, .i32⟩
  | 96 => ⟨S2x320000x1, .i32⟩
  | 97 => ⟨S2x320000, .i32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3_0 : Ref sig .tc := ⟨.hbm, 48, rfl⟩
abbrev main_v34_2 : Ref sig .tc := ⟨.hbm, 49, rfl⟩
abbrev main_call0_c : Ref sig .tc := ⟨.hbm, 50, rfl⟩
abbrev main_call0_v4 : Ref sig .tc := ⟨.hbm, 51, rfl⟩
abbrev main_call0_v5 : Ref sig .tc := ⟨.hbm, 52, rfl⟩
abbrev main_call0_c_0 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_v34_0 : Ref sig .tc := ⟨.hbm, 58, rfl⟩
abbrev main_call0_c_1 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_c_2 : Ref sig .tc := ⟨.hbm, 64, rfl⟩
abbrev main_call0_v15 : Ref sig .tc := ⟨.hbm, 65, rfl⟩
abbrev main_call0_c_3 : Ref sig .tc := ⟨.hbm, 66, rfl⟩
abbrev main_call0_v16 : Ref sig .tc := ⟨.hbm, 67, rfl⟩
abbrev main_v34_1 : Ref sig .tc := ⟨.hbm, 68, rfl⟩
abbrev main_call1_v0 : Ref sig .tc := ⟨.hbm, 69, rfl⟩
abbrev main_call1_call0_c : Ref sig .tc := ⟨.hbm, 70, rfl⟩
abbrev main_call1_call0_v0 : Ref sig .tc := ⟨.hbm, 71, rfl⟩
abbrev main_v35 : Ref sig .tc := ⟨.hbm, 72, rfl⟩
abbrev main_c : Ref sig .tc := ⟨.hbm, 73, rfl⟩
abbrev main_v36 : Ref sig .tc := ⟨.hbm, 74, rfl⟩
abbrev main_c_3 : Ref sig .tc := ⟨.hbm, 75, rfl⟩
abbrev main_v37 : Ref sig .tc := ⟨.hbm, 76, rfl⟩
abbrev main_v38 : Ref sig .tc := ⟨.hbm, 77, rfl⟩
abbrev main_c_4 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_5 : Ref sig .tc := ⟨.hbm, 83, rfl⟩
abbrev main_v43 : Ref sig .tc := ⟨.hbm, 84, rfl⟩
abbrev main_v44 : Ref sig .tc := ⟨.hbm, 85, rfl⟩
abbrev main_call2_call0_c : Ref sig .tc := ⟨.hbm, 86, rfl⟩
abbrev main_call2_call0_v0 : Ref sig .tc := ⟨.hbm, 87, rfl⟩
abbrev main_v45 : Ref sig .tc := ⟨.hbm, 88, rfl⟩
abbrev main_c_6 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v46 : Ref sig .tc := ⟨.hbm, 106, rfl⟩
abbrev main_c_7 : Ref sig .tc := ⟨.hbm, 107, rfl⟩
abbrev main_call4_v0 : Ref sig .tc := ⟨.hbm, 108, rfl⟩
abbrev main_call4_c : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_1 : Ref sig .tc := ⟨.hbm, 115, rfl⟩
abbrev main_call4_v5 : Ref sig .tc := ⟨.hbm, 116, rfl⟩
abbrev main_call4_v6 : Ref sig .tc := ⟨.hbm, 117, rfl⟩
abbrev main_call4_c_2 : Ref sig .tc := ⟨.hbm, 118, rfl⟩
abbrev main_call4_v7 : Ref sig .tc := ⟨.hbm, 119, rfl⟩
abbrev main_call4_v8 : Ref sig .tc := ⟨.hbm, 120, rfl⟩
abbrev main_call4_c_3 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_v47 : Ref sig .tc := ⟨.hbm, 128, rfl⟩
abbrev main_v48 : Ref sig .tc := ⟨.hbm, 129, rfl⟩
abbrev main_c_8 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_c_9 : Ref sig .tc := ⟨.hbm, 136, rfl⟩
abbrev main_call5_v0 : Ref sig .tc := ⟨.hbm, 137, rfl⟩
abbrev main_call5_v1 : Ref sig .tc := ⟨.hbm, 138, rfl⟩
abbrev main_v54 : Ref sig .tc := ⟨.hbm, 139, rfl⟩
abbrev main_c_10 : Ref sig .tc := ⟨.hbm, 140, rfl⟩
abbrev main_v55 : Ref sig .tc := ⟨.hbm, 141, rfl⟩
abbrev main_v56 : Ref sig .tc := ⟨.hbm, 142, rfl⟩
abbrev main_c_11 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_c_12 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_c_13 : Ref sig .tc := ⟨.hbm, 155, rfl⟩
abbrev main_call6_v0 : Ref sig .tc := ⟨.hbm, 156, rfl⟩
abbrev main_v67 : Ref sig .tc := ⟨.hbm, 157, rfl⟩
abbrev main_call7_v0 : Ref sig .tc := ⟨.hbm, 158, rfl⟩
abbrev main_call7_call0_c : Ref sig .tc := ⟨.hbm, 159, rfl⟩
abbrev main_call7_call0_v0 : Ref sig .tc := ⟨.hbm, 160, rfl⟩
abbrev main_v68 : Ref sig .tc := ⟨.hbm, 161, rfl⟩
abbrev main_c_14 : Ref sig .tc := ⟨.hbm, 162, rfl⟩
abbrev main_v69 : Ref sig .tc := ⟨.hbm, 163, rfl⟩
abbrev main_v70 : Ref sig .tc := ⟨.hbm, 164, rfl⟩
abbrev main_c_15 : Ref sig .tc := ⟨.hbm, 165, rfl⟩
abbrev main_v71 : Ref sig .tc := ⟨.hbm, 166, rfl⟩
abbrev main_c_16 : Ref sig .tc := ⟨.hbm, 167, rfl⟩
abbrev main_v72 : Ref sig .tc := ⟨.hbm, 168, rfl⟩
abbrev main_v73 : Ref sig .tc := ⟨.hbm, 169, rfl⟩
abbrev main_c_17 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_cst_18 : Ref sig .tc := ⟨.hbm, 182, rfl⟩
abbrev main_call8_v0 : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_v85 : Ref sig .tc := ⟨.hbm, 187, rfl⟩
abbrev main_cst_19 : Ref sig .tc := ⟨.hbm, 188, rfl⟩
abbrev main_v86 : Ref sig .tc := ⟨.hbm, 189, rfl⟩
abbrev main_cst_20 : Ref sig .tc := ⟨.hbm, 190, rfl⟩
abbrev main_v87 : Ref sig .tc := ⟨.hbm, 191, rfl⟩
abbrev main_v88 : Ref sig .tc := ⟨.hbm, 192, rfl⟩
abbrev main_cst_21 : Ref sig .tc := ⟨.hbm, 193, rfl⟩
abbrev main_call9_v0 : Ref sig .tc := ⟨.hbm, 194, rfl⟩
abbrev main_call9_v1 : Ref sig .tc := ⟨.hbm, 195, rfl⟩
abbrev main_v89 : Ref sig .tc := ⟨.hbm, 196, rfl⟩
abbrev main_cst_22 : Ref sig .tc := ⟨.hbm, 197, rfl⟩
abbrev main_v90 : Ref sig .tc := ⟨.hbm, 198, rfl⟩
abbrev main_cst_23 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_cst_24 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_cst_25 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_c_26 : Ref sig .tc := ⟨.hbm, 213, rfl⟩
abbrev main_v102 : Ref sig .tc := ⟨.hbm, 214, rfl⟩
abbrev main_v103 : Ref sig .tc := ⟨.hbm, 215, rfl⟩
abbrev main_v104 : Ref sig .tc := ⟨.hbm, 216, rfl⟩
abbrev main_c_27 : Ref sig .tc := ⟨.hbm, 217, rfl⟩
abbrev main_v105 : Ref sig .tc := ⟨.hbm, 218, rfl⟩
abbrev main_v106 : Ref sig .tc := ⟨.hbm, 219, rfl⟩
abbrev main_c_28 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩

abbrev nD : Nat := 1
abbrev τ : Topo := Topo.v7x

variable {F : FTy → Type} [FloatOps F]
-- ==== Proof.Fold.lean ====
/- Row-wise accumulation, stated for any element type: what a loop that adds one row per step to a table of rows leaves. -/
module

public import Idealize.ShloMosaic.Lib.Pointwise.Index

@[expose] public section

namespace SegPool

/-- The table of rows after `k` steps of the accumulation: step `i` combines row `seg i` with the `i`-th data row,
    every other row stays. -/
def rowFold {α : Type} {n w : ℕ} (op : α → α → α) (seg : Fin n → ℕ) (x : Fin n → Fin w → α) (z : α) :
    ℕ → ℕ → Fin w → α
  | 0, _, _ => z
  | k + 1, s, j =>
    if h : k < n then
      if s = seg ⟨k, h⟩ then op (rowFold op seg x z k s j) (x ⟨k, h⟩ j) else rowFold op seg x z k s j
    else rowFold op seg x z k s j

/-- A step on the row it names. -/
theorem rowFold_hit {α : Type} {n w : ℕ} (op : α → α → α) (seg : Fin n → ℕ) (x : Fin n → Fin w → α) (z : α)
    (k : Fin n) (j : Fin w) :
    rowFold op seg x z (k.val + 1) (seg k) j = op (rowFold op seg x z k.val (seg k) j) (x k j) := by
  rw [rowFold, dif_pos k.isLt, if_pos rfl]

/-- A step on any other row. -/
theorem rowFold_miss {α : Type} {n w : ℕ} (op : α → α → α) (seg : Fin n → ℕ) (x : Fin n → Fin w → α) (z : α)
    (k : Fin n) (s : ℕ) (hs : s ≠ seg k) (j : Fin w) :
    rowFold op seg x z (k.val + 1) s j = rowFold op seg x z k.val s j := by
  rw [rowFold, dif_pos k.isLt, if_neg hs]

end SegPool

end
-- ==== Proof.BodyI.lean ====
/- The kernel body of `KernelIdeal`: its loop by an invariant that says what the two accumulators hold. -/
module

public import proofs.«01_k».proof.Proof.Fold
public import proofs.«01_k».proof.Proof.Gen.KernelIdeal.Skeleton
public import proofs.«01_k».proof.Proof.Gen.KernelIdeal.Loops
public import proofs.«01_k».proof.Proof.Gen.KernelIdeal.Launch
public import Idealize.ShloMosaic.Lib.WritesUnit
public import Idealize.ShloMosaic.Lib.VecWindow
public import Idealize.ShloMosaic.Lib.Pointwise.Index
public import Idealize.ShloMosaic.Lib.Pointwise.Reshape

@[expose] public section

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen SegPool

variable {F : FTy → Type} [FloatOps F]

/-- The algebra the run is stated at. -/
local notation "𝕄" => MT nD τ sig Unit (Elt F) ℕ (UR sig nD τ) ℕ

/-- The loop makes one trip per node. -/
theorem trips_eq : k0_t1_loop.trips = 10000 := by decide

/-- Trip `k` reads table entry `k`. -/
theorem off1_eq (k : Fin k0_t1_loop.trips) : k0_off1 k = ![k.val] := by
  have hk : k.val < 10000 := trips_eq ▸ k.isLt
  have : (Scf.iv 0#32 1#32 k.val).toNat = k.val := by
    simp [Scf.iv]; omega
  simp only [k0_off1, Scalar.indexCast, this]

/-- The value table row of trip `k`: row `k` of the node features. -/
theorem off2_eq (k : Fin k0_t1_loop.trips) : k0_off2 k = ![k.val, 0] := by
  have h := congrFun (off1_eq k) 0
  simp only [k0_off1, k0_off2] at h ⊢
  funext a; match a with
  | ⟨0, _⟩ => exact h
  | ⟨1, _⟩ => rfl

/-- The same row of the augmented positions. -/
theorem off4_eq (k : Fin k0_t1_loop.trips) : k0_off4 k = ![k.val, 0] := off2_eq k

/-- The row of a word that is a node number is a row of both accumulators. -/
theorem chk_of_lt (v : BitVec 32) (h : v.toNat < 10000) : k0_chk1 v := by
  refine ⟨fun a => ?_, fun a => ?_⟩ <;>
  · match a with
    | ⟨0, _⟩ => show v.toNat + 1 ≤ 10000; omega
    | ⟨1, _⟩ => exact Nat.le_of_eq rfl

/-- The view of a whole-row rectangle: its coordinates are the row and the column. -/
theorem readAt_row {n w : ℕ} {κ : Kind} {sp : Space} {sg : RefSig} {e : EltTy} (v : View sg κ sp ⟨2, ![n, w]⟩ e) (f : v.ty.Contents (Elt F))
    (off : Fin 2 → ℕ) (o : Fin n) (hoff : off = ![o.val, 0]) (inb : ∀ a, off a + (![1, w] : Fin 2 → ℕ) a ≤ (⟨2, ![n, w]⟩ : Shape).size a)
    (y : (⟨2, ![1, w]⟩ : Shape).Idx) :
    v.readAt (Elt F) (Rect.unit (s := ⟨2, ![n, w]⟩) off ![1, w] inb).toLoadRect f y = v.read (Elt F) f (ix2 o (y 1)) := by
  subst hoff
  refine congrArg (v.read (Elt F) f) ?_
  funext a; apply Fin.ext
  have h0 : (y 0).val = 0 := Nat.lt_one_iff.mp (y 0).isLt
  match a with
  | ⟨0, _⟩ => show o.val + 1 * (y 0).val = o.val; omega
  | ⟨1, _⟩ => show 0 + 1 * (y 1).val = (y 1).val; omega

/-- A whole row stored over a buffer: that row holds the payload, the others what they held. -/
theorem read_store_row {n w : ℕ} {κ : Kind} {sp : Space} {sg : RefSig} {e : EltTy} (v : View sg κ sp ⟨2, ![n, w]⟩ e) (f : v.ty.Contents (Elt F))
    (off : Fin 2 → ℕ) (o : ℕ) (hoff : off = ![o, 0]) (inb : ∀ a, off a + (![1, w] : Fin 2 → ℕ) a ≤ (⟨2, ![n, w]⟩ : Shape).size a)
    (p : (⟨2, ![1, w]⟩ : Shape).Idx → Elt F e) (s : Fin n) (j : Fin w) :
    v.read (Elt F) (v.writes (Elt F) f [⟨Rect.unit (s := ⟨2, ![n, w]⟩) off ![1, w] inb, p⟩]) (ix2 s j)
      = if s.val = o then p (ix2 0 j) else v.read (Elt F) f (ix2 s j) := by
  by_cases h : s.val = o
  · rw [if_pos h]
    refine View.read_writes_cons_unit_of_mem v f inb p [] (ix2 s j) (ix2 (0 : Fin 1) j) hoff fun a => ?_
    match a with
    | ⟨0, _⟩ => show s.val = o + 0; omega
    | ⟨1, _⟩ => show j.val = 0 + j.val; omega
  · rw [if_neg h]
    refine View.read_writes_cons_unit_of_not_mem v f inb p [] (ix2 s j) hoff (0 : Fin 2) ?_
    show s.val < o ∨ o + 1 ≤ s.val
    omega

/-- A load of a whole buffer reads its contents. -/
theorem readAt_all {n w : ℕ} {κ : Kind} {sp : Space} {sg : RefSig} {e : EltTy} (v : View sg κ sp ⟨2, ![n, w]⟩ e) (f : v.ty.Contents (Elt F))
    (inb : ∀ a, (![0, 0] : Fin 2 → ℕ) a + (![n, w] : Fin 2 → ℕ) a ≤ (⟨2, ![n, w]⟩ : Shape).size a) :
    v.readAt (Elt F) (Rect.unit (s := ⟨2, ![n, w]⟩) ![0, 0] ![n, w] inb).toLoadRect f = v.read (Elt F) f := by
  funext y
  refine congrArg (v.read (Elt F) f) ?_
  funext a; apply Fin.ext
  match a with
  | ⟨0, _⟩ => show 0 + 1 * (y 0).val = (y 0).val; omega
  | ⟨1, _⟩ => show 0 + 1 * (y 1).val = (y 1).val; omega

section Loop

variable (𝒱 : Variants) (c : Dev nD) (i : grid0.Coords)
  (arg1 : Memref sig .tc .smem S10000 .i32) (harg1 : arg1.IsWhole) (arg2 : Memref sig .tc .vmem S10000x128 .f32) (harg2 : arg2.IsWhole)
  (arg3 : Memref sig .tc .vmem S10000x8 .f32) (harg3 : arg3.IsWhole) (arg4 : Memref sig .tc .vmem S10000x128 .f32) (harg4 : arg4.IsWhole)
  (arg5 : Memref sig .tc .vmem S10000x8 .f32) (harg5 : arg5.IsWhole)

/-- The row of a table's entry. -/
def segOf (t : S10000.Idx → BitVec 32) (k : Fin 10000) : ℕ := (t (ix1 k)).toNat

/-- The running maximum after `k` trips, of features `x` along table `t`. -/
def acc4 (t : S10000.Idx → BitVec 32) (x : S10000x128.Idx → F .f32) (k : ℕ) : S10000x128.Idx → F .f32 := fun y =>
  rowFold (FloatOps.maximumf (φ := .f32)) (segOf t) (fun r j => x (ix2 r j)) (Scalar.ofBits .f32 0xFF800000#32) k (y 0).val (y 1)

/-- The running sum after `k` trips, of rows `x` along table `t`. -/
def acc5 (t : S10000.Idx → BitVec 32) (x : S10000x8.Idx → F .f32) (k : ℕ) : S10000x8.Idx → F .f32 := fun y =>
  rowFold (FloatOps.addf (φ := .f32)) (segOf t) (fun r j => x (ix2 r j)) (Scalar.ofBits .f32 0x00000000#32) k (y 0).val (y 1)

/-- What the loop keeps: the inputs, and the accumulators at the trips' running maximum and running sum. -/
abbrev loopState (X1 : BufTy.Contents (Elt F) arg1.view.ty) (X2 : BufTy.Contents (Elt F) arg2.view.ty) (X3 : BufTy.Contents (Elt F) arg3.view.ty)
    (k : ℕ) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (∃ f, (arg4.view.loc (c : Thread nD τ) ↦[arg4.view.set]{fullShare} f) ∗ ⌜arg4.view.read (Elt F) f = acc4 (arg1.view.read (Elt F) X1) (arg2.view.read (Elt F) X2) k⌝)
    ∗ (∃ f, (arg5.view.loc (c : Thread nD τ) ↦[arg5.view.set]{fullShare} f) ∗ ⌜arg5.view.read (Elt F) f = acc5 (arg1.view.read (Elt F) X1) (arg3.view.read (Elt F) X3) k⌝))

/-- The word trip `k` loads is the table's entry `k`. -/
theorem word_eq (X1 : BufTy.Contents (Elt F) arg1.view.ty) (k : Fin k0_t1_loop.trips) (hk : k.val < 10000) :
    arg1.view.readAt (Elt F) (Rect.unit (s := S10000) (k0_off1 k) S1.size (k0_off1_inb k)).toLoadRect X1 (Shape.Idx.first (numel1_S1.symm ▸ Nat.one_pos))
      = arg1.view.read (Elt F) X1 (ix1 ⟨k.val, hk⟩) := by
  refine congrArg (arg1.view.read (Elt F) X1) ?_
  funext a; apply Fin.ext
  match a with
  | ⟨0, _⟩ =>
    show k0_off1 k 0 + 1 * 0 = k.val
    rw [off1_eq]; rfl

/-- One trip carries the loop's state on. -/
theorem trip (E : Set ℕ) (X1 : BufTy.Contents (Elt F) arg1.view.ty) (X2 : BufTy.Contents (Elt F) arg2.view.ty) (X3 : BufTy.Contents (Elt F) arg3.view.ty)
    (ht : ∀ y, (arg1.view.read (Elt F) X1 y).toNat < 10000) (k : Fin k0_t1_loop.trips) :
    loopState (F := F) c arg1 arg2 arg3 arg4 arg5 X1 X2 X3 k.val
      ⊢ wp frame (wpE (defs₀ (F := F)) 𝒱 (c : Thread nD τ) none) E (k0_t1_body (F := F) i arg1 harg1 arg2 harg2 arg3 harg3 arg4 harg4 arg5 harg5 k PUnit.unit)
          (fun _ => loopState (F := F) c arg1 arg2 arg3 arg4 arg5 X1 X2 X3 (k.val + 1)) := by
  have hk : k.val < 10000 := trips_eq ▸ k.isLt
  have hw := word_eq arg1 X1 k hk
  have hv := ht (ix1 ⟨k.val, hk⟩)
  have hchk : k0_chk1 (arg1.view.readAt (Elt F) (Rect.unit (s := S10000) (k0_off1 k) S1.size (k0_off1_inb k)).toLoadRect X1 (Shape.Idx.first (numel1_S1.symm ▸ Nat.one_pos))) := by
    rw [hw]; exact chk_of_lt _ hv
  unfold k0_t1_body
  iintro ⟨HR_arg1, HR_arg2, HR_arg3, ⟨%f4, HW_arg4, %h4⟩, ⟨%f5, HW_arg5, %h5⟩⟩
  sl_exec
  sl_step
  sl_unfold_run_names
  isplitl [HR_arg1]; · iexact HR_arg1
  isplitl [HR_arg2]; · iexact HR_arg2
  isplitl [HR_arg3]; · iexact HR_arg3
  have hoff4 : ∀ v v' : BitVec 32, v = v' → k0_off3 v = ![v'.toNat, 0] := fun v v' h => h ▸ rfl
  have hoff5 : ∀ v v' : BitVec 32, v = v' → k0_off5 v = ![v'.toNat, 0] := fun v v' h => h ▸ rfl
  isplitl [HW_arg4]
  · iexists _; isplitl [HW_arg4]; · iexact HW_arg4
    ipureintro
    funext y
    obtain ⟨s, j, rfl⟩ : ∃ s j, y = ix2 s j := ⟨_, _, eq_ix2 y⟩
    refine (read_store_row (n := 10000) (w := 128) arg4.view f4 _ (segOf (arg1.view.read (Elt F) X1) ⟨k.val, hk⟩) (hoff4 _ _ hw) _ _ s j).trans ?_
    show _ = acc4 _ _ (k.val + 1) (ix2 s j)
    by_cases hs : s.val = segOf (arg1.view.read (Elt F) X1) ⟨k.val, hk⟩
    · rw [if_pos hs]
      unfold acc4
      rw [show ((ix2 s j : (⟨2, ![10000, 128]⟩ : Shape).Idx) 0).val = s.val from rfl, hs]
      refine Eq.trans ?_ (rowFold_hit _ _ _ _ ⟨k.val, hk⟩ _).symm
      show FloatOps.maximumf (shapeCast _ _ _ _) _ = _
      rw [shapeCast_id]
      congr 1
      · refine (readAt_row (n := 10000) (w := 128) arg4.view f4 _ ⟨_, hv⟩ (hoff4 _ _ hw) _ (ix2 0 j)).trans ?_
        rw [h4]; rfl
      · exact readAt_row (n := 10000) (w := 128) arg2.view X2 _ ⟨k.val, hk⟩ (off2_eq k) _ (ix2 0 j)
    · rw [if_neg hs, h4]
      exact (rowFold_miss _ _ _ _ ⟨k.val, hk⟩ _ hs _).symm
  · iexists _; isplitl [HW_arg5]; · iexact HW_arg5
    ipureintro
    funext y
    obtain ⟨s, j, rfl⟩ : ∃ s j, y = ix2 s j := ⟨_, _, eq_ix2 y⟩
    refine (read_store_row (n := 10000) (w := 8) arg5.view f5 _ (segOf (arg1.view.read (Elt F) X1) ⟨k.val, hk⟩) (hoff5 _ _ hw) _ _ s j).trans ?_
    show _ = acc5 _ _ (k.val + 1) (ix2 s j)
    by_cases hs : s.val = segOf (arg1.view.read (Elt F) X1) ⟨k.val, hk⟩
    · rw [if_pos hs]
      unfold acc5
      rw [show ((ix2 s j : (⟨2, ![10000, 8]⟩ : Shape).Idx) 0).val = s.val from rfl, hs]
      refine Eq.trans ?_ (rowFold_hit _ _ _ _ ⟨k.val, hk⟩ _).symm
      show FloatOps.addf (shapeCast _ _ _ _) (shapeCast _ _ _ _) = _
      rw [shapeCast_id, shapeCast_id]
      congr 1
      · refine (readAt_row (n := 10000) (w := 8) arg5.view f5 _ ⟨_, hv⟩ (hoff5 _ _ hw) _ (ix2 0 j)).trans ?_
        rw [h5]; rfl
      · exact readAt_row (n := 10000) (w := 8) arg3.view X3 _ ⟨k.val, hk⟩ (off4_eq k) _ (ix2 0 j)
    · rw [if_neg hs, h5]
      exact (rowFold_miss _ _ _ _ ⟨k.val, hk⟩ _ hs _).symm

set_option warn.classDefReducibility false in
/-- The loop by its state: the run finds it where the loop is met. -/
@[sl_loop] def segLoop (E : Set ℕ) (X1 : BufTy.Contents (Elt F) arg1.view.ty) (X2 : BufTy.Contents (Elt F) arg2.view.ty) (X3 : BufTy.Contents (Elt F) arg3.view.ty)
    (ht : ∀ y, (arg1.view.read (Elt F) X1 y).toNat < 10000) :
    LoopInvTy_k0_t1 (F := F) Unit ℕ (UR sig nD τ) ℕ 𝒱 c none E i arg1 harg1 arg2 harg2 arg3 harg3 arg4 harg4 arg5 harg5 where
  inv k _ := loopState (F := F) c arg1 arg2 arg3 arg4 arg5 X1 X2 X3 k
  step k _ := trip 𝒱 c i arg1 harg1 arg2 harg2 arg3 harg3 arg4 harg4 arg5 harg5 E X1 X2 X3 ht k

/-- Before the first trip the running maximum is the table of −∞ the body stores. -/
theorem acc4_zero (t : S10000.Idx → BitVec 32) (x : S10000x128.Idx → F .f32) : acc4 t x 0 = k0_pay1 (F := F) := rfl
/-- Before the first trip the running sum is the table of zeros the body stores. -/
theorem acc5_zero (t : S10000.Idx → BitVec 32) (x : S10000x8.Idx → F .f32) : acc5 t x 0 = k0_pay2 (F := F) := rfl

/-- What the body starts from: its three operands at their contents, its two results at any. -/
abbrev operands (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} f4) ∗ (arg5.view.loc (c : Thread nD τ) ↦[arg5.view.set]{fullShare} f5))

/-- THE BODY: from the table, the features and the augmented positions, the pooled features and the normalised sums. -/
theorem body (E : Set ℕ) (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty)
    (ht : ∀ y, (arg1.view.read (Elt F) X1 y).toNat < 10000) :
    operands (F := F) c arg1 arg2 arg3 arg4 arg5 X1 X2 X3 f4 f5
      ⊢ wp frame (wpE (defs₀ (F := F)) 𝒱 (c : Thread nD τ) none) E (cc0__seg_kernel (F := F) i arg1 harg1 arg2 harg2 arg3 harg3 arg4 harg4 arg5 harg5)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
            ∗ (∃ f, (arg4.view.loc (c : Thread nD τ) ↦[arg4.view.set]{fullShare} f) ∗ ⌜arg4.view.read (Elt F) f = k0_pay5 (acc4 (arg1.view.read (Elt F) X1) (arg2.view.read (Elt F) X2) 10000)⌝)
            ∗ (∃ f, (arg5.view.loc (c : Thread nD τ) ↦[arg5.view.set]{fullShare} f) ∗ ⌜arg5.view.read (Elt F) f = k0_pay6 (acc5 (arg1.view.read (Elt F) X1) (arg3.view.read (Elt F) X3) 10000)⌝))) := by
  iintro ⟨HR_arg1, HR_arg2, HR_arg3, HW_arg4, HW_arg5⟩
  have h4 : arg4.view.read (Elt F) (arg4.view.writes (Elt F) arg4.view.junk [⟨Rect.unit (s := S10000x128) ![0, 0] S10000x128.size inb_S10000x128_S10000x128_0_0, k0_pay1 (F := F)⟩])
      = acc4 (arg1.view.read (Elt F) X1) (arg2.view.read (Elt F) X2) 0 := View.read_writes_full _ _ _ _ _
  have h5 : arg5.view.read (Elt F) (arg5.view.writes (Elt F) arg5.view.junk [⟨Rect.unit (s := S10000x8) ![0, 0] S10000x8.size inb_S10000x8_S10000x8_0_0, k0_pay2 (F := F)⟩])
      = acc5 (arg1.view.read (Elt F) X1) (arg3.view.read (Elt F) X3) 0 := View.read_writes_full _ _ _ _ _
  sl_unfold [cc0__seg_kernel]
  sl_exec_parts
  sl_step
  sl_unfold_run_names
  have ht : Scf.trips k0_t1_loop.lb k0_t1_loop.ub k0_t1_loop.st = 10000 := trips_eq
  rw [ht] at hL4 hL6
  isplitl [HR_arg1]; · iexact HR_arg1
  isplitl [HR_arg2]; · iexact HR_arg2
  isplitl [HR_arg3]; · iexact HR_arg3
  isplitl [HW_arg4]
  · iexists _; isplitl [HW_arg4]; · iexact HW_arg4
    ipureintro
    refine (View.read_writes_full _ _ _ _ _).trans (congrArg k0_pay5 ?_)
    rw [← hL4]
    exact readAt_all arg4.view fL0 _
  · iexists _; isplitl [HW_arg5]; · iexact HW_arg5
    ipureintro
    refine (View.read_writes_full _ _ _ _ _).trans (congrArg k0_pay6 ?_)
    rw [← hL6]
    exact readAt_all arg5.view fL1 _

end Loop

end Cert.KernelIdeal.Seg

end
-- ==== Proof.RunI.lean ====
/- The run of `KernelIdeal`'s @main: the host operations, the kernel's region, the host operations after it. -/
module

public import proofs.«01_k».proof.Proof.BodyI
public import Idealize.ShloMosaic.Lib.Pipeline.Regions
public import Idealize.ShloMosaic.Lib.Pipeline.RegionsLoop
public import Idealize.ShloMosaic.Lib.Pipeline.FrameSuffix

@[expose] public section

set_option maxRecDepth 16384

noncomputable section

namespace Cert.KernelIdeal.Seg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen SegPool

variable {F : FTy → Type} [FloatOps F]

/-- The algebra the run is stated at. -/
local notation "𝕄" => MT nD τ sig Unit (Elt F) ℕ (UR sig nD τ) ℕ

/-! ## The region, from any contents of the core's buffers -/

section Region

variable (V : Dev nD → Valuation τ sig (Elt F))

/-- There is one core. -/
theorem core_eq (c : Dev nD) : c = (⟨0, by decide⟩ : Fin nD) := by
  obtain ⟨c, h⟩ := c; apply Fin.ext; have : nD = 1 := rfl; simp only; omega

/-- The prefetched table: the segment table as the region finds it. -/
abbrev adm : (p : Fin 1) → (pcfgs (F := F) p).Adm := fun p => match p with
  | 0 => ⟨fun k => V (⟨0, by decide⟩ : Fin nD) (Proc.devRef .tc (pre0.ref k)), trivial⟩

/-- The segment table, the node features and the augmented positions, as the region finds them. -/
abbrev tab (c : Dev nD) : S10000.Idx → BitVec 32 := V c (Proc.devRef .tc main_v78)
/-- The features the region reads, -/
abbrev feat (c : Dev nD) : S10000x128.Idx → F .f32 := V c (Proc.devRef .tc main_arg0)
/-- and the augmented rows. -/
abbrev aug (c : Dev nD) : S10000x8.Idx → F .f32 := V c (Proc.devRef .tc main_v83)

/-- What the pipeline fetches for an input window: the window's block of its array. -/
abbrev stg0 (c : Dev nD) : S10000x128.Idx → F .f32 :=
  (((cfg0 (F := F) (adm V 0)).win 0).blk t0_0).view.read (Elt F) (V c (Proc.devRef .tc (Pipeline.arrRef spec0 0)))
/-- What the second window is staged with. -/
abbrev stg1 (c : Dev nD) : S10000x8.Idx → F .f32 :=
  (((cfg0 (F := F) (adm V 0)).win 1).blk t0_0).view.read (Elt F) (V c (Proc.devRef .tc (Pipeline.arrRef spec0 1)))

/-- The proof data: arrays as found; after the body the inputs as fetched, the outputs as the body computes them. -/
def dats (p : Fin 1) (c : Dev nD) : Dat τ (Elt F) Unit ℕ (UR sig nD τ) ℕ (Pipeline.pin (pcfgs (F := F)) (adm V) p) c := match p with
  | 0 => {
    A := fun w => V c (Proc.devRef .tc (Pipeline.arrRef spec0 w))
    after := fun w _ => match w with
      | ⟨0, _⟩ => stg0 V c
      | ⟨1, _⟩ => stg1 V c
      | ⟨2, _⟩ => k0_pay5 (acc4 (tab V c) (stg0 V c) 10000)
      | ⟨3, _⟩ => k0_pay6 (acc5 (tab V c) (stg1 V c) 10000)
    Φ := fun _ => iprop(((c : Thread nD τ).loc main_v78) ↦{fullShare} V c (Proc.devRef .tc main_v78))
    q := fun _ => fullShare
    owed := fun _ => 0 }

/-- The arrays of the proof data, projected. -/
theorem A_eq (c : Dev nD) (w : Fin 4) : (dats V 0 c).A w = V c (Proc.devRef .tc (Pipeline.arrRef spec0 w)) := by
  dsimp only [dats]

/-- An input window's buffer holds the array's block when the body runs. -/
theorem before_0 (c : Dev nD) (d) : (dats V 0 c).before (0 : Fin 4) t0_0 d = stg0 V c := by
  unfold Dat.before; rw [if_pos (by rfl)]; rfl
/-- The augmented rows are staged before the body runs. -/
theorem before_1 (c : Dev nD) (d) : (dats V 0 c).before (1 : Fin 4) t0_0 d = stg1 V c := by
  unfold Dat.before; rw [if_pos (by rfl)]; rfl

/-- The one prefetched table held. -/
theorem prefHeld_eq (c : Dev nD) (q : Fin 1 → PosShare TreeShare) (v : pre0.Contents (Elt F)) :
    (Pipeline.prefHeld pre0 c q v : sProp 𝕄) = iprop(((c : Thread nD τ).loc main_v78) ↦{q 0} (show Buf (Elt F) ((c : Thread nD τ).loc main_v78) from v 0)) := by
  unfold Pipeline.prefHeld
  rw [show (Finset.univ : Finset (Fin 1)) = {0} from by decide, bigSep_singleton]
  rfl

/-- The table's buffer, as the memref the body is given. -/
theorem table_pts (c : Dev nD) (f : Buf (Elt F) ((c : Thread nD τ).loc main_v78)) :
    (iprop(((c : Thread nD τ).loc main_v78) ↦{fullShare} f) : sProp 𝕄)
      = iprop(((Memref.whole main_v78).view.loc (c : Thread nD τ)) ↦[(Memref.whole main_v78).view.set]{fullShare} f) := by
  simp only [Memref.view_whole, View.set_whole]

/-- The body with its continuation: the buffers given, and the continuation owed them back after the run. -/
theorem body_cps (c : Dev nD) (i : grid0.Coords) (arg1 : Memref sig .tc .smem S10000 .i32) (harg1 : arg1.IsWhole)
    (arg2 : Memref sig .tc .vmem S10000x128 .f32) (harg2 : arg2.IsWhole) (arg3 : Memref sig .tc .vmem S10000x8 .f32) (harg3 : arg3.IsWhole)
    (arg4 : Memref sig .tc .vmem S10000x128 .f32) (harg4 : arg4.IsWhole) (arg5 : Memref sig .tc .vmem S10000x8 .f32) (harg5 : arg5.IsWhole)
    (E : Set ℕ) (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty)
    (ht : ∀ y, (arg1.view.read (Elt F) X1 y).toNat < 10000) (Q : PUnit → sProp 𝕄) :
    iprop(operands (F := F) c arg1 arg2 arg3 arg4 arg5 X1 X2 X3 f4 f5
      ∗ (∀ u, ((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
            ∗ (∃ f, (arg4.view.loc (c : Thread nD τ) ↦[arg4.view.set]{fullShare} f) ∗ ⌜arg4.view.read (Elt F) f = k0_pay5 (acc4 (arg1.view.read (Elt F) X1) (arg2.view.read (Elt F) X2) 10000)⌝)
            ∗ (∃ f, (arg5.view.loc (c : Thread nD τ) ↦[arg5.view.set]{fullShare} f) ∗ ⌜arg5.view.read (Elt F) f = k0_pay6 (acc5 (arg1.view.read (Elt F) X1) (arg3.view.read (Elt F) X3) 10000)⌝)) -∗ Q u))
      ⊢ wp frame (wpE (defs₀ (F := F)) Variants.none (c : Thread nD τ) none) E (cc0__seg_kernel (F := F) i arg1 harg1 arg2 harg2 arg3 harg3 arg4 harg4 arg5 harg5) Q :=
  (sep_mono (body Variants.none c i arg1 harg1 arg2 harg2 arg3 harg3 arg4 harg4 arg5 harg5 E X1 X2 X3 f4 f5 ht) .rfl).trans (wp_wand_r frame _ _)

/-- The body meets what the launch asks of it, whenever the table's entries are rows. -/
theorem body_obligation (ht : ∀ c y, (tab V c y).toNat < 10000) (c : Dev nD) :
    BodyObligation (dats V 0 c) (defs₀ (F := F)) Variants.none () Set.univ := fun t => by
  obtain rfl := fin_N0 t
  rw [bigSep_W0, bigSep_W0]
  unfold owns
  rw [show (dats V 0 c).Φ t0_0.castSucc = iprop(((c : Thread nD τ).loc main_v78) ↦{fullShare} V c (Proc.devRef .tc main_v78)) from rfl,
    show (dats V 0 c).Φ t0_0.succ = iprop(((c : Thread nD τ).loc main_v78) ↦{fullShare} V c (Proc.devRef .tc main_v78)) from rfl, table_pts]
  unfold Dat.owesAt Pipeline.owesWithin
  rw [show (dats V 0 c).owed t0_0.castSucc = 0 from rfl, show (dats V 0 c).owed t0_0.succ = 0 from rfl]
  iintro ⟨HT, ⟨%W, %hW, HO⟩, ⟨%d0, %f0, %hf0, H0⟩, ⟨%d1, %f1, %hf1, H1⟩, ⟨%d2, %f2, %hf2, H2⟩, ⟨%d3, %f3, %hf3, H3⟩⟩
  rw [before_0] at hf0
  rw [before_1] at hf1
  iapply (body_cps c (grid0.coords t0_0) (Memref.whole main_v78) (Memref.isWhole_whole _) _ _ _ _ _ _ _ _ Set.univ (V c (Proc.devRef .tc main_v78)) f0 f1 f2 f3 (ht c) _)
  isplitl [HT H0 H1 H2 H3]
  · isplitl [HT]; · iexact HT
    isplitl [H0]; · iexact H0
    isplitl [H1]; · iexact H1
    isplitl [H2]; · iexact H2
    iexact H3
  iintro %u ⟨HT, H0, H1, ⟨%g2, H2, %hg2⟩, ⟨%g3, H3, %hg3⟩⟩
  isplitl [HT]; · iexact HT
  isplitl [HO]
  · iexists W; isplitr; · ipureintro; exact fun _ _ => Or.inl trivial
    iexact HO
  isplitl [H0]
  · iexists f0; isplitr; swap; (· iexact H0); ipureintro; exact hf0
  isplitl [H1]
  · iexists f1; isplitr; swap; (· iexact H1); ipureintro; exact hf1
  isplitl [H2]
  · iexists g2; isplitr; swap; (· iexact H2); ipureintro; rw [hg2]; dsimp only [dats]; rw [← hf0]; rfl
  · iexists g3; isplitr; swap; (· iexact H3); ipureintro; rw [hg3]; dsimp only [dats]; rw [← hf1]; rfl

/-- No level is assigned: no core owes another anything. -/
abbrev L : GSem nD τ sig → Finset Unit := fun _ => ∅
/-- Every semaphore is of level zero. -/
abbrev lv : GSem nD τ sig → Unit → ℕ := fun _ _ => 0
/-- What rides beside the buffers: that the core owes nothing. -/
abbrev Rest (c : Dev nD) : sProp 𝕄 := iprop(∃ W, owes (c : Thread nD τ) (0 : CellTallies nD τ sig Unit) W)

/-- The core's buffers after the region: the windows' arrays as the pipeline leaves them, the others as found. -/
def exitV (c : Dev nD) : Valuation τ sig (Elt F) :=
  Pipeline.withArrays spec0 c (V c) (fun w => (dats V 0 c).arrAt w (Pipeline.pin (pcfgs (F := F)) (adm V) 0).N)

/-- After the region a window's array is what the pipeline leaves, -/
theorem exitV_arr (c : Dev nD) (w : Fin 4) :
    exitV V c (Proc.devRef .tc (Pipeline.arrRef spec0 w)) = (dats V 0 c).arrAt w (Pipeline.pin (pcfgs (F := F)) (adm V) 0).N :=
  Pipeline.withArrays_arr spec0 winFacts0.arr_inj c (V c) (fun w => (dats V 0 c).arrAt w (Pipeline.pin (pcfgs (F := F)) (adm V) 0).N) w
/-- and any other buffer is as found. -/
theorem exitV_of_ne (c : Dev nD) (b : Ref sig .tc) (hb : ∀ w, Pipeline.arrRef spec0 w ≠ b) :
    exitV V c (Proc.devRef .tc b) = V c (Proc.devRef .tc b) :=
  Pipeline.withArrays_of_ne spec0 c (V c) (fun w => (dats V 0 c).arrAt w (Pipeline.pin (pcfgs (F := F)) (adm V) 0).N) b hb

set_option backward.isDefEq.respectTransparency.types false in
/-- THE REGION as a segment of @main. -/
def reg0 (ht : ∀ c y, (tab V c y).toNat < 10000) :
    Pipeline.RegionSeg (pcfgs (F := F)) (adm V) (dats V) () defs₀ Variants.none L lv 0 where
  win := (launch0 (F := F)).win.to₀
  block_pos := (launch0 (F := F)).block_pos
  stage_whole := (launch0 (F := F)).stage_whole
  K := _
  osem := _
  ho := Pipeline.OwnSemFacts.none spec0
  hbody c := (body_obligation V ht c).loose
  hwaits := Pipeline.hwaits_of_owed_zero _ _ _ _ L lv 0 fun _ _ => rfl
  pre c := iprop(StableHlo.held (c : Thread nD τ) (Pipeline.ucRefs τ sig) (V c) ∗ Rest c)
  post c := iprop(StableHlo.held (c : Thread nD τ) (Pipeline.ucRefs τ sig) (exitV V c) ∗ Rest c)
  X c := iprop(emp)
  Y c := iprop(((c : Thread nD τ).loc main_v78) ↦{fullShare} V c (Proc.devRef .tc main_v78))
  Z c := Pipeline.unscopedRestP (Ix := Unit) (Name := ℕ) (U := UR sig nD τ) (Lvl := ℕ) pre0 spec0 c (fun b => V c (Proc.devRef .tc b))
  hentry c := by
    rw [← Pipeline.unscopedBufs_held c (V c)]
    have hsplit := (Pipeline.arrays_of_unscopedBufs (pcfgs (F := F)) (adm V) (dats V) (launch0 (F := F)).win (launch0 (F := F)).arr_whole c
      ((dats V 0 c).share_full fun _ => rfl) (fun b => V c (Proc.devRef .tc b)) (A_eq V c)).trans
      (sep_mono .rfl (Entails.of_eq (Pipeline.unscopedRest_split (preFacts0) c (fun b => V c (Proc.devRef .tc b)))))
    iintro ⟨⟨Hub, HO⟩, -, -⟩
    ihave H := hsplit $$ Hub
    icases H with ⟨Ha, Hp, Hz⟩
    imodintro
    isplitl [Ha]; · iexact Ha
    isplitl [Hp]
    · have e : (fun k => V c (Proc.devRef .tc (pre0.ref k))) = (adm V 0).1 := by rw [core_eq c]
      rw [← e]; iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats V 0 c).Φ 0 = iprop(((c : Thread nD τ).loc main_v78) ↦{fullShare} V c (Proc.devRef .tc main_v78)) from rfl]
    have e : (Pipeline.prefHeld pre0 c (fun _ => fullShare) (adm V 0).1 : sProp 𝕄) = iprop(((c : Thread nD τ).loc main_v78) ↦{fullShare} V c (Proc.devRef .tc main_v78)) := by
      rw [prefHeld_eq, core_eq c]; rfl
    iintro ⟨-, Hp, -⟩
    rw [← e]; iexact Hp
  hout c := by
    rw [Pipeline.ownSems0_none, show (dats V 0 c).Φ (Fin.last _) = iprop(((c : Thread nD τ).loc main_v78) ↦{fullShare} V c (Proc.devRef .tc main_v78)) from rfl]
    iintro H
    isplitl [H]; · iexact H
    isplitr; · iempintro
    rw [show Pipeline.scopedRest (Ix := Unit) (Name := ℕ) (U := UR sig nD τ) (Lvl := ℕ) (Val := Elt F) (Pipeline.pin (pcfgs (F := F)) (adm V) 0).spec c = (BI.emp : sProp 𝕄) from scopedRest0_eq c]
    iempintro
  hexit c := by
    have hjoin := (sep_mono .rfl (Entails.of_eq (Pipeline.unscopedRest_split (Ix := Unit) (Name := ℕ) (U := UR sig nD τ) (Lvl := ℕ) (preFacts0) c (fun b => V c (Proc.devRef .tc b))).symm)).trans
      (Pipeline.unscopedBufs_of_arrays (pcfgs (F := F)) (adm V) (p := 0) (launch0 (F := F)).win (launch0 (F := F)).arr_whole c (dats V)
      ((dats V 0 c).share_full fun _ => rfl) (fun b => V c (Proc.devRef .tc b)) (fun b => exitV V c (Proc.devRef .tc b))
      (fun w => (dats V 0 c).arrAt w (Pipeline.pin (pcfgs (F := F)) (adm V) 0).N)
      (fun w => (exitV_arr V c w).symm)
      (fun b hb => exitV_of_ne V c b fun w e => hb (Finset.mem_image.mpr ⟨w, Finset.mem_univ _, e⟩)))
    rw [← Pipeline.unscopedBufs_held c (exitV V c)]
    iintro ⟨Ha, HO, HY, HZ⟩
    imodintro
    isplitr [HO]
    · iapply hjoin
      isplitl [Ha]; · iexact Ha
      isplitl [HY]
      · rw [prefHeld_eq]; iexact HY
      · iexact HZ
    · unfold Pipeline.Dat.owesAt Pipeline.owesWithin
      icases HO with ⟨%W, -, HO⟩; iexists W; iexact HO

end Region

/-! ## @main: the host operations before the region, the region, the host operations after it -/

section Launch

variable (m : (ℓ : Loc nD τ sig) → Buf (Elt F) ℓ) (ρ : Dev nD → PrngReg)

/-- The core's buffers at launch, and after each stretch of host operations. -/
def W0 (c : Dev nD) : Valuation τ sig (Elt F) := fun b => m (c, b)
/-- What a device holds after 1 of the host's segments. -/
def W1 (c : Dev nD) : Valuation τ sig (Elt F) := StableHlo.after hostOps0 (W0 m c)
/-- What a device holds after 2 of the host's segments. -/
def W2 (c : Dev nD) : Valuation τ sig (Elt F) := StableHlo.after hostOps0_1 (W1 m c)
/-- What a device holds after 3 of the host's segments. -/
def W3 (c : Dev nD) : Valuation τ sig (Elt F) := StableHlo.after hostOps0_2 (W2 m c)
/-- What a device holds after 4 of the host's segments. -/
def W4 (c : Dev nD) : Valuation τ sig (Elt F) := StableHlo.after hostOps0_3 (W3 m c)
/-- What a device holds after 5 of the host's segments. -/
def W5 (c : Dev nD) : Valuation τ sig (Elt F) := StableHlo.after hostOps0_4 (W4 m c)
/-- What a device holds after 6 of the host's segments. -/
def W6 (c : Dev nD) : Valuation τ sig (Elt F) := StableHlo.after hostOps0_5 (W5 m c)
/-- What a device holds after 7 of the host's segments. -/
def W7 (c : Dev nD) : Valuation τ sig (Elt F) := StableHlo.after hostOps0_6 (W6 m c)
/-- What a device holds after 8 of the host's segments. -/
def W8 (c : Dev nD) : Valuation τ sig (Elt F) := StableHlo.after hostOps0_7 (W7 m c)
/-- What a device holds after 9 of the host's segments. -/
def W9 (c : Dev nD) : Valuation τ sig (Elt F) := StableHlo.after hostOps0_8 (W8 m c)
/-- What a device holds after 10 of the host's segments. -/
def W10 (c : Dev nD) : Valuation τ sig (Elt F) := StableHlo.after hostOps0_9 (W9 m c)
/-- What a device holds after 11 of the host's segments. -/
def W11 (c : Dev nD) : Valuation τ sig (Elt F) := StableHlo.after hostOps0_10 (W10 m c)
/-- What a device holds after 12 of the host's segments. -/
def W12 (c : Dev nD) : Valuation τ sig (Elt F) := StableHlo.after hostOps0_11 (W11 m c)
/-- What a device holds after 13 of the host's segments. -/
def W13 (c : Dev nD) : Valuation τ sig (Elt F) := StableHlo.after hostOps0_12 (W12 m c)
/-- What a device holds after 14 of the host's segments. -/
def W14 (c : Dev nD) : Valuation τ sig (Elt F) := StableHlo.after hostOps0_13 (W13 m c)
/-- What a device holds after 15 of the host's segments. -/
def W15 (c : Dev nD) : Valuation τ sig (Elt F) := StableHlo.after hostOps0_14 (W14 m c)
/-- … after the region, and after the last stretch. -/
def W16 (c : Dev nD) : Valuation τ sig (Elt F) := exitV (W15 m) c
/-- What a device holds at the end. -/
def W17 (c : Dev nD) : Valuation τ sig (Elt F) := StableHlo.after hostOps1 (W16 m c)

/-- A stretch of host operations as a segment, over the core's unscoped buffers. -/
def hseg (ops : List (HloOp τ sig (Elt F))) (hsub : ops.Forall fun op => op.bufs ⊆ StableHlo.tcRefs τ sig)
    (hfresh : ∀ op ∈ ops, op.fresh = ∅) (V : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops (fun op h => Pipeline.sub_ucRefs op ((List.forall_iff_forall_mem.mp hsub) op h)) hfresh V (fun c => Rest c)

/-- A host segment allocates nothing. -/
theorem fresh_hostOps0 : ∀ op ∈ (hostOps0 : List (HloOp τ sig (Elt F))), op.fresh = ∅ := by
  intro _ h; (repeat (cases h with | head => rfl | tail _ h => ?_)); exact nomatch h
/-- A host segment allocates nothing. -/
theorem fresh_hostOps0_1 : ∀ op ∈ (hostOps0_1 : List (HloOp τ sig (Elt F))), op.fresh = ∅ := by
  intro _ h; (repeat (cases h with | head => rfl | tail _ h => ?_)); exact nomatch h
/-- A host segment allocates nothing. -/
theorem fresh_hostOps0_2 : ∀ op ∈ (hostOps0_2 : List (HloOp τ sig (Elt F))), op.fresh = ∅ := by
  intro _ h; (repeat (cases h with | head => rfl | tail _ h => ?_)); exact nomatch h
/-- A host segment allocates nothing. -/
theorem fresh_hostOps0_3 : ∀ op ∈ (hostOps0_3 : List (HloOp τ sig (Elt F))), op.fresh = ∅ := by
  intro _ h; (repeat (cases h with | head => rfl | tail _ h => ?_)); exact nomatch h
/-- A host segment allocates nothing. -/
theorem fresh_hostOps0_4 : ∀ op ∈ (hostOps0_4 : List (HloOp τ sig (Elt F))), op.fresh = ∅ := by
  intro _ h; (repeat (cases h with | head => rfl | tail _ h => ?_)); exact nomatch h
/-- A host segment allocates nothing. -/
theorem fresh_hostOps0_5 : ∀ op ∈ (hostOps0_5 : List (HloOp τ sig (Elt F))), op.fresh = ∅ := by
  intro _ h; (repeat (cases h with | head => rfl | tail _ h => ?_)); exact nomatch h
/-- A host segment allocates nothing. -/
theorem fresh_hostOps0_6 : ∀ op ∈ (hostOps0_6 : List (HloOp τ sig (Elt F))), op.fresh = ∅ := by
  intro _ h; (repeat (cases h with | head => rfl | tail _ h => ?_)); exact nomatch h
/-- A host segment allocates nothing. -/
theorem fresh_hostOps0_7 : ∀ op ∈ (hostOps0_7 : List (HloOp τ sig (Elt F))), op.fresh = ∅ := by
  intro _ h; (repeat (cases h with | head => rfl | tail _ h => ?_)); exact nomatch h
/-- A host segment allocates nothing. -/
theorem fresh_hostOps0_8 : ∀ op ∈ (hostOps0_8 : List (HloOp τ sig (Elt F))), op.fresh = ∅ := by
  intro _ h; (repeat (cases h with | head => rfl | tail _ h => ?_)); exact nomatch h
/-- A host segment allocates nothing. -/
theorem fresh_hostOps0_9 : ∀ op ∈ (hostOps0_9 : List (HloOp τ sig (Elt F))), op.fresh = ∅ := by
  intro _ h; (repeat (cases h with | head => rfl | tail _ h => ?_)); exact nomatch h
/-- A host segment allocates nothing. -/
theorem fresh_hostOps0_10 : ∀ op ∈ (hostOps0_10 : List (HloOp τ sig (Elt F))), op.fresh = ∅ := by
  intro _ h; (repeat (cases h with | head => rfl | tail _ h => ?_)); exact nomatch h
/-- A host segment allocates nothing. -/
theorem fresh_hostOps0_11 : ∀ op ∈ (hostOps0_11 : List (HloOp τ sig (Elt F))), op.fresh = ∅ := by
  intro _ h; (repeat (cases h with | head => rfl | tail _ h => ?_)); exact nomatch h
/-- A host segment allocates nothing. -/
theorem fresh_hostOps0_12 : ∀ op ∈ (hostOps0_12 : List (HloOp τ sig (Elt F))), op.fresh = ∅ := by
  intro _ h; (repeat (cases h with | head => rfl | tail _ h => ?_)); exact nomatch h
/-- A host segment allocates nothing. -/
theorem fresh_hostOps0_13 : ∀ op ∈ (hostOps0_13 : List (HloOp τ sig (Elt F))), op.fresh = ∅ := by
  intro _ h; (repeat (cases h with | head => rfl | tail _ h => ?_)); exact nomatch h
/-- A host segment allocates nothing. -/
theorem fresh_hostOps0_14 : ∀ op ∈ (hostOps0_14 : List (HloOp τ sig (Elt F))), op.fresh = ∅ := by
  intro _ h; (repeat (cases h with | head => rfl | tail _ h => ?_)); exact nomatch h
/-- A host segment allocates nothing. -/
theorem fresh_hostOps1 : ∀ op ∈ (hostOps1 : List (HloOp τ sig (Elt F))), op.fresh = ∅ := by
  intro _ h; (repeat (cases h with | head => rfl | tail _ h => ?_)); exact nomatch h

/-- @main as the list of its segments. -/
def segs (ht : ∀ c y, (tab (W15 m) c y).toNat < 10000) : List (Pipeline.Seg (pcfgs (F := F)) (adm (W15 m)) (dats (W15 m)) () defs₀ Variants.none L lv) :=
  [ .host (hseg hostOps0 hostOps0_sub fresh_hostOps0 (W0 m)),
    .host (hseg hostOps0_1 hostOps0_1_sub fresh_hostOps0_1 (W1 m)),
    .host (hseg hostOps0_2 hostOps0_2_sub fresh_hostOps0_2 (W2 m)),
    .host (hseg hostOps0_3 hostOps0_3_sub fresh_hostOps0_3 (W3 m)),
    .host (hseg hostOps0_4 hostOps0_4_sub fresh_hostOps0_4 (W4 m)),
    .host (hseg hostOps0_5 hostOps0_5_sub fresh_hostOps0_5 (W5 m)),
    .host (hseg hostOps0_6 hostOps0_6_sub fresh_hostOps0_6 (W6 m)),
    .host (hseg hostOps0_7 hostOps0_7_sub fresh_hostOps0_7 (W7 m)),
    .host (hseg hostOps0_8 hostOps0_8_sub fresh_hostOps0_8 (W8 m)),
    .host (hseg hostOps0_9 hostOps0_9_sub fresh_hostOps0_9 (W9 m)),
    .host (hseg hostOps0_10 hostOps0_10_sub fresh_hostOps0_10 (W10 m)),
    .host (hseg hostOps0_11 hostOps0_11_sub fresh_hostOps0_11 (W11 m)),
    .host (hseg hostOps0_12 hostOps0_12_sub fresh_hostOps0_12 (W12 m)),
    .host (hseg hostOps0_13 hostOps0_13_sub fresh_hostOps0_13 (W13 m)),
    .host (hseg hostOps0_14 hostOps0_14_sub fresh_hostOps0_14 (W14 m)),
    .region (reg0 (W15 m) ht),
    .host (hseg hostOps1 hostOps1_sub fresh_hostOps1 (W16 m)) ]

/-- A stretch's fragment of @main is its operations in order; the region's is its call. -/
theorem prog_hseg (a) (ds) (ops : List (HloOp τ sig (Elt F))) (h1) (h2) (V : Dev nD → Valuation τ sig (Elt F)) :
    Pipeline.Seg.prog (pcs := pcfgs (F := F)) (a := a) (pdats := ds) (ι := ()) (.host (hseg ops h1 h2 V)) = StableHlo.seq ops := rfl
/-- The region's program is the printed call. -/
theorem prog_reg0 (V : Dev nD → Valuation τ sig (Elt F)) (ht) :
    Pipeline.Seg.prog (.region (reg0 V ht)) = Prog.lift (.customCall (Pipeline.entry 0) ()) := rfl

/-- @main is the run of its segments. -/
theorem segs_run (ht : ∀ c y, (tab (W15 m) c y).toNat < 10000) (c : Dev nD) : Pipeline.Seg.run (segs m ht) = main (F := F) c := by
  rw [Pipeline.Seg.run_eq_chain, main_chain c]
  unfold segs
  simp only [List.map_cons, List.map_nil]
  simp only [prog_hseg, prog_reg0]

/-- What the run leaves: every unscoped buffer at the contents computed. -/
abbrev Tlast (c : Dev nD) : sProp 𝕄 := StableHlo.held (c : Thread nD τ) (Pipeline.ucRefs τ sig) (W17 m c)

set_option backward.isDefEq.respectTransparency.types false in
/-- THE RUN: from any memory with zero counters, the table's entries being row numbers, every weakly fair execution of
    @main terminates with every unscoped buffer at the contents computed and every counter at zero. -/
theorem run_main (ht : ∀ c y, (tab (W15 m) c y).toNat < 10000) :
    θ_run (nD := nD) defs (onTc (τ := τ) (main (F := F))) ⟨m, fun _ => 0, ρ⟩
      (fun r => (∀ c : Dev nD, ∀ b ∈ Pipeline.ucRefs τ sig, r.2.mem (c, b) = W17 m c b) ∧ r.2.sem = fun _ => 0) :=
  Pipeline.θ_run_regions_kit_sems (pcfgs (F := F)) (adm (W15 m)) (dats (W15 m)) () (cellOf_inj _) emb₁ defs₀ Variants.none L lv m ρ main (segs m ht)
    (fun c Q => by rw [segs_run m ht c])
    (by unfold segs; simp only [Pipeline.Seg.pipes_host, Pipeline.Seg.pipes_region, Pipeline.Seg.pipes_nil]; decide)
    (O₀ := 0) (hL := fun _ _ => rfl) (G := fun _ => iprop(emp))
    (u₀ := Rounds.initOf (Pipeline.cells (Pipeline.pin (pcfgs (F := F)) (adm (W15 m))) (cellOf_inj _)) (Pipeline.launchToks (Pipeline.pin (pcfgs (F := F)) (adm (W15 m))) (cellOf_inj _)))
    (hu₀ := by
      iintro Hu; imodintro
      isplitl [Hu]
      · iapply (show (ownU _ : sProp 𝕄) ⊢ BI.own (emb₁ (Rounds.initOf (Pipeline.cells (Pipeline.pin (pcfgs (F := F)) (adm (W15 m))) (cellOf_inj _)) (Pipeline.launchToks (Pipeline.pin (pcfgs (F := F)) (adm (W15 m))) (cellOf_inj _)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = W17 m c b)
    (hfin := fun c s' => by
      iintro ⟨Hh, HSI⟩
      imodintro
      iapply (pointsTo_read_all (Pipeline.ucRefs τ sig) (fun b => ((c, b) : Loc nD τ sig)) (fun b => W17 m c b) s')
      isplitl [Hh]
      · unfold Tlast StableHlo.held; iexact Hh
      · iexact HSI)
    (hQ := fun _ h hz => ⟨h, funext fun g => hz g (.inr (by revert g; decide))⟩)

end Launch

end Cert.KernelIdeal.Seg

end
-- ==== Proof.ArrI.lean ====
/- The arrays of `KernelIdeal`'s region: its windows are the whole arrays. -/
module

public import proofs.«01_k».proof.Proof.RunI
public import Idealize.ShloMosaic.Lib.StableHlo.Run
public import Idealize.ShloMosaic.Lib.Pipeline.ValueKit.Geometry

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool

variable {F : FTy → Type} [FloatOps F]

/-! ## The region's arrays -/

section Region

variable (c : Dev nD) (V : Dev nD → Valuation τ sig (Elt F))

/-- The features' window is the whole array, -/
theorem stg0_eq (y : S10000x128.Idx) : stg0 V c y = V c (Proc.devRef .tc main_arg0) y := by
  have e : (((cfg0 (adm V 0)).win (0 : Fin 4)).blk t0_0).view.emb y = y := by
    funext a
    match a with
    | ⟨0, _⟩ => exact Fin.ext (Pipeline.Window.rect_emb_val_of_index_zero ((cfg0 (adm V 0)).win (0 : Fin 4)) t0_0 0 rfl y)
    | ⟨1, _⟩ => exact Fin.ext (Pipeline.Window.rect_emb_val_of_index_zero ((cfg0 (adm V 0)).win (0 : Fin 4)) t0_0 1 rfl y)
  exact congrArg (V c (Proc.devRef .tc main_arg0)) e

/-- and so is the augmented rows'. -/
theorem stg1_eq (y : S10000x8.Idx) : stg1 V c y = V c (Proc.devRef .tc main_v83) y := by
  have e : (((cfg0 (adm V 0)).win (1 : Fin 4)).blk t0_0).view.emb y = y := by
    funext a
    match a with
    | ⟨0, _⟩ => exact Fin.ext (Pipeline.Window.rect_emb_val_of_index_zero ((cfg0 (adm V 0)).win (1 : Fin 4)) t0_0 0 rfl y)
    | ⟨1, _⟩ => exact Fin.ext (Pipeline.Window.rect_emb_val_of_index_zero ((cfg0 (adm V 0)).win (1 : Fin 4)) t0_0 1 rfl y)
  exact congrArg (V c (Proc.devRef .tc main_v83)) e

/-- The kernel's first result, -/
theorem exit_v84_0 : exitV V c (Proc.devRef .tc main_v84_0) = k0_pay5 (acc4 (tab V c) (stg0 V c) 10000) := by
  have hw : ((Pipeline.pin (pcfgs (F := F)) (adm V) 0).win (2 : Fin 4)).WholeAt t0_0 :=
    ⟨rfl, fun t _ => fin_N0 t, fun a => by
      match a with
      | ⟨0, _⟩ => exact ⟨rfl, rfl⟩
      | ⟨1, _⟩ => exact ⟨rfl, rfl⟩⟩
  refine (exitV_arr V c 2).trans ((dats V 0 c).arrAt_eq_of_after_last (2 : Fin 4) t0_0 hw _ (fun j => ?_) (Memref.isWhole_whole _))
  rfl

/-- and its second. -/
theorem exit_v84_1 : exitV V c (Proc.devRef .tc main_v84_1) = k0_pay6 (acc5 (tab V c) (stg1 V c) 10000) := by
  have hw : ((Pipeline.pin (pcfgs (F := F)) (adm V) 0).win (3 : Fin 4)).WholeAt t0_0 :=
    ⟨rfl, fun t _ => fin_N0 t, fun a => by
      match a with
      | ⟨0, _⟩ => exact ⟨rfl, rfl⟩
      | ⟨1, _⟩ => exact ⟨rfl, rfl⟩⟩
  refine (exitV_arr V c 3).trans ((dats V 0 c).arrAt_eq_of_after_last (3 : Fin 4) t0_0 hw _ (fun j => ?_) (Memref.isWhole_whole _))
  rfl

end Region

end Cert.KernelIdeal.Seg

end
-- ==== Proof.Table.lean ====
/- What the host operations of `jnp.unique(…, return_inverse=True)` compute: a permutation that sorts, marks where the
   sorted keys change, the running count of the marks, and the count sent back to the unsorted places. -/
module

public import Idealize.ShloMosaic.Lib.Routing.OpsOne
public import Idealize.ShloMosaic.Lib.Routing.OpsOrder
public import Idealize.ShloMosaic.Lib.SortFacts

@[expose] public section

noncomputable section

namespace SegPool

open Idealize.ShloMosaic Idealize.ShloMosaic.ValueIdx Idealize.ShloMosaic.Routing

/-! ## The sorting permutation -/

/-- The second result of a sort of keys beside their positions is a permutation of the positions. -/
theorem argsort_perm {n : ℕ} {α : Type} (cmp : α × BitVec 32 → α × BitVec 32 → BitVec 1) (x : (shape1 n).Idx → α) :
    ∃ σ : Fin n → Fin n, Function.Bijective σ ∧
      ∀ i, (Host.sort2 (shape1 n) 0 cmp x (iotaInDim (shape1 n) 32 0)).2 (ix1 i) = BitVec.ofNat 32 (σ i).val := by
  refine ⟨sortedFrom (fun k k' => cmp (x (Shape.Idx.ofFin k), iotaInDim (shape1 n) 32 0 (Shape.Idx.ofFin k))
    (x (Shape.Idx.ofFin k'), iotaInDim (shape1 n) 32 0 (Shape.Idx.ofFin k')) == 1#1), ⟨sortedFrom_injective _, sortedFrom_surjective _⟩, fun i => ?_⟩
  rw [Host.sort2_eq_sortBy]
  unfold Host.sortBy
  exact (dif_pos (c := 0 < (shape1 n).rank) (t := fun hd => iotaInDim (shape1 n) 32 0 ((ix1 i).along ⟨0, hd⟩ (sortedFrom (fun k k' =>
    cmp (x ((ix1 i).along ⟨0, hd⟩ k), iotaInDim (shape1 n) 32 0 ((ix1 i).along ⟨0, hd⟩ k))
      (x ((ix1 i).along ⟨0, hd⟩ k'), iotaInDim (shape1 n) 32 0 ((ix1 i).along ⟨0, hd⟩ k')) == 1#1) (ix1 i ⟨0, hd⟩)))) (e := fun _ => iotaInDim (shape1 n) 32 0 (ix1 i)) Nat.zero_lt_one).trans (by simp; rfl)

/-- A position wrapped as a negative index would be is itself. -/
theorem wrap_pos (b z n : BitVec 32) (p : ℕ) (hp : p < 2 ^ 31) (hz : z = 0#32) (hb : b = BitVec.ofNat 32 p) :
    Scalar.select (IntOp.cmpi .slt b z) (IntOp.addi b n) b = b := by
  subst hz; subst hb
  have : (BitVec.ofNat 32 p).slt 0#32 = false := by
    rw [BitVec.slt_zero_eq_msb, BitVec.msb_eq_decide]; simp; omega
  unfold IntOp.cmpi Scalar.select
  simp [this]

/-! ## The marks -/

/-- Writing a vector from place 1 on: update `k` lands at place `k + 1`. -/
theorem shift_lands {N M : ℕ} (d : ScatterDims (shape1 N) (shape1 1) (shape1 M)) (huw : d.updateWindowDims = [0]) (hiw : d.insertedWindowDims = [])
    (hsd : d.scatterDimsToOperandDims = [0]) (idx : IVec (shape1 1) 32) (hidx : idx (ix1 0) = 1#32) (k : Fin M) (e : Fin N) :
    d.resultIdx? (ix1 k) idx = some (ix1 e) ↔ e.val = k.val + 1 := by
  have hm : (0 : Fin 1) ∈ d.scatterDimsToOperandDims := by rw [hsd]; exact List.mem_singleton.2 rfl
  have hwin : d.window (ix1 k) 0 = k.val := by
    unfold ScatterDims.window
    rw [dif_pos (by show (0 : Fin 1) ∈ (shape1 N).kept d.insertedWindowDims; rw [hiw]; exact List.mem_singleton.2 rfl)]
    have q : ∀ X : Fin 1, (ix1 k X).val = k.val := fun X => by
      obtain rfl : X = 0 := Subsingleton.elim _ _
      rfl
    exact q _
  have hstart : d.start (ix1 k) idx 0 = 1 := by
    unfold ScatterDims.start
    rw [dif_pos hm]
    have hsi : d.siIdx (ix1 k) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]; rfl
  rw [resultIdx?_ix1, hstart, hwin]
  omega

/-- The first place keeps what it held, -/
theorem shift_zero {α : Type} {N M : ℕ} (d : ScatterDims (shape1 N) (shape1 1) (shape1 M)) (huw : d.updateWindowDims = [0]) (hiw : d.insertedWindowDims = [])
    (hsd : d.scatterDimsToOperandDims = [0]) (x0 : (shape1 N).Idx → α) (idx : IVec (shape1 1) 32) (hidx : idx (ix1 0) = 1#32) (upd : (shape1 M).Idx → α)
    (e : Fin N) (he : e.val = 0) : Host.scatter d (fun _ b => b) x0 idx upd (ix1 e) = x0 (ix1 e) :=
  scatter_set_miss d x0 idx upd _ fun j hj => by
    rw [eq_ix1 j] at hj
    have := (shift_lands d huw hiw hsd idx hidx (j 0) e).1 hj
    omega

/-- and place `k + 1` takes update `k`. -/
theorem shift_succ {α : Type} {N M : ℕ} (d : ScatterDims (shape1 N) (shape1 1) (shape1 M)) (huw : d.updateWindowDims = [0]) (hiw : d.insertedWindowDims = [])
    (hsd : d.scatterDimsToOperandDims = [0]) (x0 : (shape1 N).Idx → α) (idx : IVec (shape1 1) 32) (hidx : idx (ix1 0) = 1#32) (upd : (shape1 M).Idx → α)
    (e : Fin N) (k : Fin M) (he : e.val = k.val + 1) : Host.scatter d (fun _ b => b) x0 idx upd (ix1 e) = upd (ix1 k) :=
  scatter_set_hit d x0 idx upd _ _ (fun j hj => by
    rw [eq_ix1 j] at hj ⊢
    have := (shift_lands d huw hiw hsd idx hidx (j 0) e).1 hj
    exact congrArg (fun t => upd (ix1 t)) (Fin.ext (by omega))) (ix1 k) ((shift_lands d huw hiw hsd idx hidx k e).2 he)

/-! ## The running count -/

/-- How many of the marks 0 … j are set. -/
def marks {N : ℕ} (mask : IVec (shape1 N) 1) (j : ℕ) : ℕ :=
  ((List.range (j + 1)).map fun i => if h : i < N then (mask (ix1 ⟨i, h⟩)).toNat else 0).sum

/-- The count of marks grows by the mark at the next place, -/
theorem marks_succ {N : ℕ} (mask : IVec (shape1 N) 1) (j : ℕ) (h : j + 1 < N) : marks mask (j + 1) = marks mask j + (mask (ix1 ⟨j + 1, h⟩)).toNat := by
  unfold marks
  rw [List.range_succ, List.map_append, List.sum_append]
  simp [h]

/-- is at most the number of places, -/
theorem marks_le {N : ℕ} (mask : IVec (shape1 N) 1) (j : ℕ) : marks mask j ≤ j + 1 := by
  have bit : ∀ i, (if h : i < N then (mask (ix1 ⟨i, h⟩)).toNat else 0) ≤ 1 := fun i => by
    split
    · have := (mask (ix1 ⟨i, by assumption⟩)).isLt; omega
    · omega
  unfold marks
  induction j with
  | zero => simpa using bit 0
  | succ j ih =>
    rw [List.range_succ, List.map_append, List.sum_append, List.map_singleton, List.sum_singleton]
    have := bit (j + 1)
    omega

/-- never falls, -/
theorem marks_mono {N : ℕ} (mask : IVec (shape1 N) 1) {j k : ℕ} (h : j ≤ k) : marks mask j ≤ marks mask k := by
  induction h with
  | refl => exact le_rfl
  | @step k _ ih =>
    refine ih.trans ?_
    unfold marks
    rw [List.range_succ (n := k + 1), List.map_append, List.sum_append]
    exact Nat.le_add_right _ _

/-- and is at least one where the first place is marked. -/
theorem marks_pos {N : ℕ} (mask : IVec (shape1 N) 1) (hN : 0 < N) (h0 : mask (ix1 ⟨0, hN⟩) = 1#1) (j : ℕ) : 1 ≤ marks mask j := by
  refine le_trans ?_ (marks_mono mask (Nat.zero_le j))
  simp [marks, hN, h0]

/-- Two places with one count between them have no mark between them. -/
theorem marks_eq {N : ℕ} (mask : IVec (shape1 N) 1) {j k : ℕ} (hjk : j ≤ k) (hk : k < N) (e : marks mask j = marks mask k) :
    ∀ i (h : i < N), j < i → i ≤ k → mask (ix1 ⟨i, h⟩) = 0#1 := by
  intro i h hji hik
  obtain ⟨i, rfl⟩ : ∃ i', i = i' + 1 := ⟨i - 1, by omega⟩
  have h1 := marks_mono mask (show j ≤ i by omega)
  have h2 := marks_mono mask hik
  have h3 := marks_succ mask i h
  exact BitVec.eq_of_toNat_eq (by simp; omega)

/-- The printed running sum of the marks is the count. -/
theorem cumsum_marks {N Nm1 : ℕ} (hN : Nm1 + 1 = N) (mask : IVec (shape1 N) 1) (hw : 1 < 32) (init : IVec shape0 32) (hinit : init ix0 = 0#32)
    (h : (shape1 N).ReduceWindows (![N] : Fin 1 → ℕ) ![1] ![Nm1] ![0] (shape1 N)) (hu : 0 < shape0.numel) (j : Fin N) :
    Host.reduceWindow IntOp.addi ![N] ![1] ![Nm1] ![0] (extui 32 mask hw) init h hu (ix1 j) = BitVec.ofNat 32 (marks mask j.val) :=
  cumsum1 hN _ (fun i => if h : i < N then (mask (ix1 ⟨i, h⟩)).toNat else 0) (fun i => by
    rw [dif_pos i.isLt]
    show (mask (ix1 i)).setWidth 32 = _
    exact BitVec.eq_of_toNat_eq (by simp)) init hinit h hu j

/-! ## The inverse -/

/-- The count at place `i`, less one, is written to the place the sort took it from: the table's entries are below the
    number of places, -/
theorem inverse_lt {N : ℕ} (d : ScatterDims (shape1 N) (shape2 N 1) (shape1 N)) (hN : 0 < N) (hN31 : N < 2 ^ 31) (mask : IVec (shape1 N) 1) (h0 : mask (ix1 ⟨0, hN⟩) = 1#1)
    (z : IVec (shape1 N) 32) (hz : ∀ y, z y = 0#32) (idx : IVec (shape2 N 1) 32) (cnt one : IVec (shape1 N) 32) (hone : ∀ y, one y = 1#32)
    (hcnt : ∀ j : Fin N, cnt (ix1 j) = BitVec.ofNat 32 (marks mask j.val)) (y : (shape1 N).Idx) :
    (Host.scatter d (fun _ b => b) z idx (subi cnt one) y).toNat < N := by
  refine scatter_forall d (fun _ b => b) (fun w => w.toNat < N) (fun _ _ _ h => h) z idx _ (fun i => by rw [hz]; simpa using hN) (fun j => ?_) y
  obtain ⟨p, rfl⟩ : ∃ p : Fin N, j = ix1 p := ⟨j 0, eq_ix1 j⟩
  show (cnt (ix1 p) - one (ix1 p)).toNat < N
  have hj := p.isLt
  have h1 := marks_pos mask hN h0 p.val
  have h2 := marks_le mask p.val
  rw [hcnt, hone, BitVec.toNat_sub]
  simp
  omega

/-- and the entry of the place the sort took place `i` from is that count less one. -/
theorem inverse_at {N : ℕ} (d : ScatterDims (shape1 N) (shape2 N 1) (shape1 N)) (hiw : d.insertedWindowDims = [0])
    (hsd : d.scatterDimsToOperandDims = [0]) (hivd : d.indexVectorDim = 1) (hN31 : N < 2 ^ 31) (z : IVec (shape1 N) 32) (idx : IVec (shape2 N 1) 32) (u : IVec (shape1 N) 32)
    (σ : Fin N → Fin N) (hσ : Function.Injective σ) (hidx : ∀ i : Fin N, idx (ix2 i (0 : Fin 1)) = BitVec.ofNat 32 (σ i).val) (i : Fin N) :
    Host.scatter d (fun _ b => b) z idx u (ix1 (σ i)) = u (ix1 i) :=
  (scatter_set d hiw hsd hivd z idx u (fun k => if h : k < N then (σ ⟨k, h⟩).val else 0) (fun k => by rw [dif_pos k.isLt]; exact hidx k)
    (fun k => by rw [dif_pos k.isLt]; have := (σ k).isLt; omega) (σ i) (u (ix1 i))
    (fun k hk => by rw [dif_pos k.isLt] at hk; exact congrArg (fun t => u (ix1 t)) (hσ (Fin.ext hk)))).1 ⟨i, by rw [dif_pos i.isLt]⟩

/-! ## A reduction over no axes -/

/-- The `or` over no axes is the operand itself. -/
theorem or_none {N : ℕ} (x : IVec (shape1 N) 1) (init : IVec shape0 1) (hinit : ∀ y, init y = 0#1) (h : (shape1 N).ReducesTo [] (shape1 N)) (hu : 0 < shape0.numel) :
    Host.reduce IntOp.ori x init h hu = x := by
  funext j
  have hd : ∀ i, h.drop i = i := fun i => by
    funext a
    obtain rfl : a = 0 := Subsingleton.elim (α := Fin 1) _ _
    exact Fin.ext (Shape.ReducesTo.drop_apply_val_of_eq h i 0 0 Nat.zero_lt_one rfl)
  unfold Host.reduce
  have hf : (List.finRange (shape1 N).numel).filter (fun n => decide (h.drop ((shape1 N).rowMajor.symm n) = j)) = [(shape1 N).rowMajor j] := by
    have : (fun n => decide (h.drop ((shape1 N).rowMajor.symm n) = j)) = fun n => decide (n = (shape1 N).rowMajor j) := by
      funext n
      rw [hd]
      exact decide_eq_decide.2 (Equiv.symm_apply_eq _)
    rw [this]
    rw [List.filter_eq, List.count_eq_one_of_mem (List.nodup_finRange _) (List.mem_finRange _), List.replicate_one]
  rw [hf, hinit]
  show 0#1 ||| x _ = x j
  rw [Equiv.symm_apply_apply]
  simp

end SegPool

end
-- ==== Proof.UniqI.lean ====
/- The segment table of `KernelIdeal`, as a function of the nodes' cluster numbers. -/
module

public import proofs.«01_k».proof.Proof.Gen.KernelIdeal
public import proofs.«01_k».proof.Proof.Table
public import Idealize.ShloMosaic.Lib.Routing.OpsSet

@[expose] public section

set_option maxRecDepth 16384

noncomputable section

namespace Cert.KernelIdeal.Seg

open Idealize.ShloMosaic Idealize.ShloMosaic.ValueIdx Idealize.ShloMosaic.Routing
open Cert.KernelIdeal Cert.KernelIdeal.Gen SegPool

/-- The places of the nodes in order of cluster number, -/
def perm (cl : IVec S10000 32) : IVec S10000 32 :=
  (Host.sort2 S10000 0 comparator_i32_i32_d0 (shapeCast _ (extractStridedSlice S1x10000 ![0, 0] (Host.reverse [0] (transpose S1x10000 [1, 0] (shapeCast _ cl shapeCasts_S10000_S10000x1) transposes_S10000x1_S1x10000_1_0)) slices_S1x10000_S1x10000_0_0) shapeCasts_S1x10000_S10000) (iotaInDim S10000 32 0)).2

/-- those places as indices, -/
def place (cl : IVec S10000 32) : IVec S10000x1 32 :=
  broadcastInDim S10000x1 ![0] bcast_S10000_S10000x1_0 (select (cmpi .slt (perm cl) (broadcastInDim S10000 ![] bcast_S_S10000 (constantI S_ 32 0#32))) (addi (perm cl) (broadcastInDim S10000 ![] bcast_S_S10000 (constantI S_ 32 10000#32))) (perm cl))

/-- the cluster numbers in that order, -/
def sorted (cl : IVec S10000 32) : IVec S10000 32 := Host.gather gather_S10000_S10000x1_S10000_n_0_n_n_0_1_1 cl (place cl)

/-- the marks where they change, -/
def mask (cl : IVec S10000 32) : IVec S10000 1 :=
  Host.scatter scatter_S10000_S1_S9999_0_n_0_0 (fun _ b => b) (broadcastInDim S10000 ![] bcast_S_S10000 (constantI S_ 1 1#1)) (broadcastInDim S1 ![] bcast_S_S1 (constantI S_ 32 1#32)) (Host.reduce IntOp.ori (cmpi .ne (extractStridedSlice S9999 ![1] (sorted cl) slices_S10000_S9999_1) (extractStridedSlice S9999 ![0] (sorted cl) slices_S10000_S9999_0)) (constantI S_ 1 0#1) reducesTo_S9999_S9999_d h_S_)

/-- and the table: each node's number among the distinct cluster numbers. -/
def inv (cl : IVec S10000 32) : IVec S10000 32 :=
  Host.scatter scatter_S10000_S10000x1_S10000_n_0_0_1 (fun _ b => b) (broadcastInDim S10000 ![] bcast_S_S10000 (constantI S_ 32 0#32)) (place cl) (subi (Host.reduceWindow IntOp.addi ![10000] ![1] ![9999] ![0] (extui 32 (mask cl) natLt_1_32) (broadcastInDim S_ ![] bcast_S_S_ (constantI S_ 32 0#32)) reduceWindows_S10000_S10000_w10000s1p9999_0 h_S_) (broadcastInDim S10000 ![] bcast_S_S10000 (constantI S_ 32 1#32)))

variable (cl : IVec S10000 32)

/-- The places are a permutation. -/
theorem perm_eq : ∃ σ : Fin 10000 → Fin 10000, Function.Bijective σ ∧ ∀ i, perm cl (ix1 i) = BitVec.ofNat 32 (σ i).val :=
  argsort_perm (n := 10000) _ _

/-- As indices they are the same numbers. -/
theorem place_eq {σ : Fin 10000 → Fin 10000} (h : ∀ i, perm cl (ix1 i) = BitVec.ofNat 32 (σ i).val) (i : Fin 10000) :
    place cl (ix2 i (0 : Fin 1)) = BitVec.ofNat 32 (σ i).val := by
  have : place cl (ix2 i (0 : Fin 1)) = Scalar.select (IntOp.cmpi .slt (perm cl (ix1 i)) 0#32) (IntOp.addi (perm cl (ix1 i)) 10000#32) (perm cl (ix1 i)) := rfl
  rw [this, wrap_pos _ _ _ (σ i).val (by have := (σ i).isLt; omega) rfl (h i), h i]

/-- The first place is marked, -/
theorem mask_zero : mask cl (ix1 ⟨0, by omega⟩) = 1#1 :=
  shift_zero (N := 10000) (M := 9999) scatter_S10000_S1_S9999_0_n_0_0 rfl rfl rfl _ _ rfl _ _ rfl

/-- and place `k + 1` is marked where its cluster number is not the one before. -/
theorem mask_succ (k : Fin 9999) : mask cl (ix1 ⟨k.val + 1, by omega⟩)
    = IntOp.cmpi .ne (sorted cl (ix1 ⟨k.val + 1, by omega⟩)) (sorted cl (ix1 ⟨k.val, by omega⟩)) := by
  unfold mask
  rw [shift_succ (N := 10000) (M := 9999) scatter_S10000_S1_S9999_0_n_0_0 rfl rfl rfl _ _ rfl _ _ k rfl]
  rw [or_none (N := 9999) _ (constantI S_ 1 0#1) (fun _ => rfl) reducesTo_S9999_S9999_d h_S_]
  refine congrArg₂ (IntOp.cmpi .ne) (congrArg (sorted cl) ?_) (congrArg (sorted cl) ?_) <;> funext a <;>
    obtain rfl : a = 0 := Subsingleton.elim (α := Fin 1) _ _
  · exact Fin.ext (Nat.add_comm 1 k.val)
  · exact Fin.ext (Nat.zero_add k.val)

/-- The running count of the marks. -/
theorem count_eq (j : Fin 10000) : Host.reduceWindow IntOp.addi ![10000] ![1] ![9999] ![0] (extui 32 (mask cl) natLt_1_32) (broadcastInDim S_ ![] bcast_S_S_ (constantI S_ 32 0#32)) reduceWindows_S10000_S10000_w10000s1p9999_0 h_S_ (ix1 j)
    = BitVec.ofNat 32 (marks (mask cl) j.val) :=
  cumsum_marks (by omega) _ _ _ rfl _ _ j

/-- Every entry of the table is a row of the result. -/
theorem inv_lt (y : S10000.Idx) : (inv cl y).toNat < 10000 :=
  inverse_lt (N := 10000) _ (by omega) (by omega) (mask cl) (mask_zero cl) _ (fun _ => rfl) _ _ _ (fun _ => rfl) (count_eq cl) y

/-- Nodes of one entry are of one cluster. -/
theorem inv_same (a b : Fin 10000) (e : inv cl (ix1 a) = inv cl (ix1 b)) : cl (ix1 a) = cl (ix1 b) := by
  obtain ⟨σ, ⟨hinj, hsurj⟩, hσ⟩ := perm_eq cl
  obtain ⟨i, rfl⟩ := hsurj a
  obtain ⟨j, rfl⟩ := hsurj b
  have hs : ∀ i, sorted cl (ix1 i) = cl (ix1 (σ i)) := fun i =>
    gather_take1 (N := 10000) (n := 10000) gather_S10000_S10000x1_S10000_n_0_n_n_0_1_1 rfl rfl rfl rfl cl _ i (σ i) (place_eq cl hσ i) (by omega)
  have hi : ∀ i, inv cl (ix1 (σ i)) = BitVec.ofNat 32 (marks (mask cl) i.val) - 1#32 := fun i =>
    (inverse_at (N := 10000) scatter_S10000_S10000x1_S10000_n_0_0_1 rfl rfl rfl (by omega) _ _ _ σ hinj (place_eq cl hσ) i).trans
      (congrArg (· - 1#32) (count_eq cl i))
  have run : ∀ i j : Fin 10000, i ≤ j → inv cl (ix1 (σ i)) = inv cl (ix1 (σ j)) → sorted cl (ix1 i) = sorted cl (ix1 j) := by
    intro i j hij e
    have hm : marks (mask cl) i.val = marks (mask cl) j.val := by
      rw [hi, hi] at e
      have e' := congrArg (fun t => (t + 1#32).toNat) e
      have h1 := marks_le (mask cl) i.val
      have h2 := marks_le (mask cl) j.val
      simp at e'
      omega
    have hz := marks_eq (mask cl) hij j.isLt hm
    have step : ∀ d (h : i.val + d < 10000), i.val + d ≤ j.val → sorted cl (ix1 i) = sorted cl (ix1 ⟨i.val + d, h⟩) := by
      intro d
      induction d with
      | zero => intro h _; rfl
      | succ d ih =>
        intro h hd
        rw [ih (by omega) (by omega)]
        have := hz (i.val + d + 1) (by omega) (by omega) (by omega)
        rw [mask_succ cl ⟨i.val + d, by omega⟩] at this
        by_contra hne
        have hb : (sorted cl (ix1 ⟨i.val + d + 1, h⟩) != sorted cl (ix1 ⟨i.val + d, by omega⟩)) = true := bne_iff_ne.2 (Ne.symm hne)
        exact absurd ((congrArg BitVec.ofBool hb).symm.trans this) (by decide)
    have := step (j.val - i.val) (by omega) (by omega)
    exact this.trans (congrArg (fun t : Fin 10000 => sorted cl (ix1 t)) (Fin.ext (show i.val + (j.val - i.val) = j.val by omega)))
  rw [← hs, ← hs]
  rcases le_total i j with h | h
  · exact run i j h e
  · exact (run j i h e.symm).symm

end Cert.KernelIdeal.Seg

end
-- ==== Proof.ValI.lean ====
/- What `KernelIdeal`'s host operations leave before the region, and its frame. -/
module

public import proofs.«01_k».proof.Proof.RunI
public import proofs.«01_k».proof.Proof.UniqI
public import Idealize.ShloMosaic.Lib.StableHlo.Run

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool

variable {F : FTy → Type} [FloatOps F]

/-- A buffer no operation of the stretch writes keeps its contents. -/
theorem keep (ops : List (HloOp τ sig (Elt F))) (r : Ref sig .tc) (h : (ops.all fun op => decide (Proc.devRef .tc r ∉ op.writes)) = true)
    (V : Valuation τ sig (Elt F)) : after ops V (Proc.devRef .tc r) = V (Proc.devRef .tc r) :=
  after_of_forall_not_mem ops V fun op ho => of_decide_eq_true (List.all_eq_true.1 h op ho)

variable (m : (ℓ : Loc nD τ sig) → Buf (Elt F) ℓ) (c : Dev nD)

/-- The nodes' cluster numbers. -/
abbrev cl : IVec S10000 32 := W1 m c (Proc.devRef .tc main_v33)

set_option maxHeartbeats 2000000 in
theorem W2_perm : W2 m c (Proc.devRef .tc main_v34_2) = perm (cl m c) := by
  unfold W2
  simp only [hostOps0_1, TRef.binary, TRef.nullary, TRef.ternary, TRef.unary, TRef.reshape, TRef.toBuf, TRef.ofBuf, cast_eq]
  after_results_simp
  rfl

set_option maxHeartbeats 2000000 in
theorem W2_mask : W2 m c (Proc.devRef .tc main_v34_1) = mask (cl m c) := by
  unfold W2
  simp only [hostOps0_1, TRef.binary, TRef.nullary, TRef.ternary, TRef.unary, TRef.reshape, TRef.toBuf, TRef.ofBuf, cast_eq]
  after_results_simp
  rfl

/-- The stretches between write neither the places, nor the marks, nor an argument. -/
theorem W13_keep (r : Ref sig .tc) (h2 : ((hostOps0_2 (F := F)).all fun op => decide (Proc.devRef .tc r ∉ op.writes)) = true)
    (h3 : ((hostOps0_3 (F := F)).all fun op => decide (Proc.devRef .tc r ∉ op.writes)) = true)
    (h4 : ((hostOps0_4 (F := F)).all fun op => decide (Proc.devRef .tc r ∉ op.writes)) = true)
    (h5 : ((hostOps0_5 (F := F)).all fun op => decide (Proc.devRef .tc r ∉ op.writes)) = true)
    (h6 : ((hostOps0_6 (F := F)).all fun op => decide (Proc.devRef .tc r ∉ op.writes)) = true)
    (h7 : ((hostOps0_7 (F := F)).all fun op => decide (Proc.devRef .tc r ∉ op.writes)) = true)
    (h8 : ((hostOps0_8 (F := F)).all fun op => decide (Proc.devRef .tc r ∉ op.writes)) = true)
    (h9 : ((hostOps0_9 (F := F)).all fun op => decide (Proc.devRef .tc r ∉ op.writes)) = true)
    (h10 : ((hostOps0_10 (F := F)).all fun op => decide (Proc.devRef .tc r ∉ op.writes)) = true)
    (h11 : ((hostOps0_11 (F := F)).all fun op => decide (Proc.devRef .tc r ∉ op.writes)) = true)
    (h12 : ((hostOps0_12 (F := F)).all fun op => decide (Proc.devRef .tc r ∉ op.writes)) = true) :
    W13 m c (Proc.devRef .tc r) = W2 m c (Proc.devRef .tc r) := by
  unfold W13 W12 W11 W10 W9 W8 W7 W6 W5 W4 W3
  rw [keep _ r h12, keep _ r h11, keep _ r h10, keep _ r h9, keep _ r h8, keep _ r h7, keep _ r h6, keep _ r h5, keep _ r h4, keep _ r h3, keep _ r h2]

/-- The sorting permutation, as the host holds it after its thirteenth segment, -/
theorem W13_perm : W13 m c (Proc.devRef .tc main_v34_2) = perm (cl m c) :=
  (W13_keep m c _ rfl rfl rfl rfl rfl rfl rfl rfl rfl rfl rfl).trans (W2_perm m c)

/-- the marks of new clusters there, -/
theorem W13_mask : W13 m c (Proc.devRef .tc main_v34_1) = mask (cl m c) :=
  (W13_keep m c _ rfl rfl rfl rfl rfl rfl rfl rfl rfl rfl rfl).trans (W2_mask m c)

/-- and the permutation one segment later. -/
theorem W14_perm : W14 m c (Proc.devRef .tc main_v34_2) = perm (cl m c) :=
  (keep hostOps0_13 main_v34_2 rfl _).trans (W13_perm m c)

set_option maxHeartbeats 2000000 in
/-- The table the kernel reads is the segment table of the cluster numbers. -/
theorem W15_table : W15 m c (Proc.devRef .tc main_v78) = inv (cl m c) := by
  have h68 : W14 m c (Proc.devRef .tc main_v68) = Host.reduceWindow IntOp.addi ![10000] ![1] ![9999] ![0] (extui 32 (mask (cl m c)) natLt_1_32) (broadcastInDim S_ ![] bcast_S_S_ (constantI S_ 32 0#32)) reduceWindows_S10000_S10000_w10000s1p9999_0 h_S_ := by
    rw [← W13_mask]
    unfold W14
    simp only [hostOps0_13, TRef.binary, TRef.nullary, TRef.ternary, TRef.unary, TRef.reshape, TRef.toBuf, TRef.ofBuf, cast_eq]
    after_results_simp
  unfold inv place
  rw [← h68, ← W14_perm]
  unfold W15
  after_results_simp

/-- Every entry of it is a row of the results. -/
theorem table_lt (c : Dev nD) (y : S10000.Idx) : (tab (W15 m) c y).toNat < 10000 := by
  unfold tab
  rw [W15_table]
  exact inv_lt _ y

/-! ## The arguments and the augmented rows -/

/-- Before the region, an argument holds what it held at launch. -/
theorem W13_arg0 : W13 m c (Proc.devRef .tc main_arg0) = W0 m c (Proc.devRef .tc main_arg0) :=
  (W13_keep m c _ rfl rfl rfl rfl rfl rfl rfl rfl rfl rfl rfl).trans ((keep hostOps0_1 _ rfl _).trans (keep hostOps0 _ rfl _))
/-- Argument 1 is unchanged through the host segments before the augmented rows. -/
theorem W13_arg1 : W13 m c (Proc.devRef .tc main_arg1) = W0 m c (Proc.devRef .tc main_arg1) :=
  (W13_keep m c _ rfl rfl rfl rfl rfl rfl rfl rfl rfl rfl rfl).trans ((keep hostOps0_1 _ rfl _).trans (keep hostOps0 _ rfl _))
/-- Argument 2 is unchanged through the host segments before the augmented rows. -/
theorem W13_arg2 : W13 m c (Proc.devRef .tc main_arg2) = W0 m c (Proc.devRef .tc main_arg2) :=
  (W13_keep m c _ rfl rfl rfl rfl rfl rfl rfl rfl rfl rfl rfl).trans ((keep hostOps0_1 _ rfl _).trans (keep hostOps0 _ rfl _))
/-- Argument 3 is unchanged through the host segments before the augmented rows. -/
theorem W13_arg3 : W13 m c (Proc.devRef .tc main_arg3) = W0 m c (Proc.devRef .tc main_arg3) :=
  (W13_keep m c _ rfl rfl rfl rfl rfl rfl rfl rfl rfl rfl rfl).trans ((keep hostOps0_1 _ rfl _).trans (keep hostOps0 _ rfl _))

/-- Argument 0 is unchanged when the region starts. -/
theorem W15_arg0 : W15 m c (Proc.devRef .tc main_arg0) = W0 m c (Proc.devRef .tc main_arg0) :=
  (keep hostOps0_14 _ rfl _).trans ((keep hostOps0_13 _ rfl _).trans (W13_arg0 m c))
/-- Argument 1 is unchanged when the region starts. -/
theorem W15_arg1 : W15 m c (Proc.devRef .tc main_arg1) = W0 m c (Proc.devRef .tc main_arg1) :=
  (keep hostOps0_14 _ rfl _).trans ((keep hostOps0_13 _ rfl _).trans (W13_arg1 m c))
/-- Argument 2 is unchanged when the region starts. -/
theorem W15_arg2 : W15 m c (Proc.devRef .tc main_arg2) = W0 m c (Proc.devRef .tc main_arg2) :=
  (keep hostOps0_14 _ rfl _).trans ((keep hostOps0_13 _ rfl _).trans (W13_arg2 m c))
/-- Argument 3 is unchanged when the region starts. -/
theorem W15_arg3 : W15 m c (Proc.devRef .tc main_arg3) = W0 m c (Proc.devRef .tc main_arg3) :=
  (keep hostOps0_14 _ rfl _).trans ((keep hostOps0_13 _ rfl _).trans (W13_arg3 m c))

/-! ## After the region -/

/-- Argument 0 is unchanged when the region ends. -/
theorem W16_arg0 : W16 m c (Proc.devRef .tc main_arg0) = W0 m c (Proc.devRef .tc main_arg0) :=
  (exitV_arr (W15 m) c 0).trans (((dats (W15 m) 0 c).arrAt_in 0 rfl _).trans (W15_arg0 m c))
/-- Argument 1 is unchanged when the region ends. -/
theorem W16_arg1 : W16 m c (Proc.devRef .tc main_arg1) = W0 m c (Proc.devRef .tc main_arg1) :=
  (exitV_of_ne (W15 m) c main_arg1 (by decide)).trans (W15_arg1 m c)
/-- Argument 2 is unchanged when the region ends. -/
theorem W16_arg2 : W16 m c (Proc.devRef .tc main_arg2) = W0 m c (Proc.devRef .tc main_arg2) :=
  (exitV_of_ne (W15 m) c main_arg2 (by decide)).trans (W15_arg2 m c)
/-- Argument 3 is unchanged when the region ends. -/
theorem W16_arg3 : W16 m c (Proc.devRef .tc main_arg3) = W0 m c (Proc.devRef .tc main_arg3) :=
  (exitV_of_ne (W15 m) c main_arg3 (by decide)).trans (W15_arg3 m c)

/-! ## At the end -/

/-- Argument 0 is unchanged at the end. -/
theorem W17_arg0 : W17 m c (Proc.devRef .tc main_arg0) = W0 m c (Proc.devRef .tc main_arg0) := (keep hostOps1 _ rfl _).trans (W16_arg0 m c)
/-- Argument 1 is unchanged at the end. -/
theorem W17_arg1 : W17 m c (Proc.devRef .tc main_arg1) = W0 m c (Proc.devRef .tc main_arg1) := (keep hostOps1 _ rfl _).trans (W16_arg1 m c)
/-- Argument 2 is unchanged at the end. -/
theorem W17_arg2 : W17 m c (Proc.devRef .tc main_arg2) = W0 m c (Proc.devRef .tc main_arg2) := (keep hostOps1 _ rfl _).trans (W16_arg2 m c)
/-- Argument 3 is unchanged at the end. -/
theorem W17_arg3 : W17 m c (Proc.devRef .tc main_arg3) = W0 m c (Proc.devRef .tc main_arg3) := (keep hostOps1 _ rfl _).trans (W16_arg3 m c)

/-- THE FRAME: @main runs, its arguments end unchanged, the counters end at zero. -/
theorem frame_main (ρ : Dev nD → PrngReg) : θ_run (nD := nD) defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c (Proc.devRef .tc main_arg0) (by decide)).trans (W17_arg0 m c), (h.1 c (Proc.devRef .tc main_arg1) (by decide)).trans (W17_arg1 m c),
    (h.1 c (Proc.devRef .tc main_arg2) (by decide)).trans (W17_arg2 m c), (h.1 c (Proc.devRef .tc main_arg3) (by decide)).trans (W17_arg3 m c)⟩, h.2⟩) (run_main m ρ (table_lt m))

end Cert.KernelIdeal.Seg

end
-- ==== Proof.ResI.lean ====
/- What `KernelIdeal`'s run leaves in its results, as functions of the arguments. -/
module

public import proofs.«01_k».proof.Proof.ArrI
public import proofs.«01_k».proof.Proof.ValI
public import Idealize.ShloMosaic.Lib.StableHlo.Run
public import Idealize.ShloMosaic.Lib.Pipeline.ValueKit.Geometry

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool

variable {F : FTy → Type} [FloatOps F]

variable (m : (ℓ : Loc nD τ sig) → Buf (Elt F) ℓ) (c : Dev nD)

/-- The rows summed: position, one, batch number, zeros. -/
def augOf (pos : FVec F S10000x3 .f32) (batch : IVec S10000 32) : FVec F S10000x8 .f32 :=
  concatenate S10000x8 1 [⟨S10000x3, pos⟩, ⟨S10000x1, broadcastInDim S10000x1 ![] bcast_S_S10000x1 (constant S_ .f32 0x3F800000#32)⟩,
    ⟨S10000x1, broadcastInDim S10000x1 ![0] bcast_S10000_S10000x1_0 (sitofp .f32 batch)⟩,
    ⟨S10000x3, broadcastInDim S10000x3 ![] bcast_S_S10000x3 (constant S_ .f32 0x00000000#32)⟩] concatenates_S10000x3_S10000x1_S10000x1_S10000x3_S10000x8_d1

set_option maxHeartbeats 2000000 in
theorem W15_aug : W15 m c (Proc.devRef .tc main_v83) = augOf (W0 m c (Proc.devRef .tc main_arg1)) (W0 m c (Proc.devRef .tc main_arg2)) := by
  rw [← W13_arg1, ← W13_arg2, ← keep hostOps0_13 main_arg1 rfl (W13 m c), ← keep hostOps0_13 main_arg2 rfl (W13 m c)]
  unfold W15
  after_results_simp
  rfl

/-- What the kernel writes first: the maximum per segment, -/
theorem W16_v84_0 : W16 m c (Proc.devRef .tc main_v84_0) = k0_pay5 (acc4 (inv (cl m c)) (W0 m c (Proc.devRef .tc main_arg0)) 10000) := by
  refine (exit_v84_0 c (W15 m)).trans ?_
  rw [show tab (W15 m) c = inv (cl m c) from W15_table m c, show stg0 (W15 m) c = W0 m c (Proc.devRef .tc main_arg0) from
    funext fun y => (stg0_eq c (W15 m) y).trans (congrFun (W15_arg0 m c) y)]

/-- and second: the averages per segment. -/
theorem W16_v84_1 : W16 m c (Proc.devRef .tc main_v84_1)
    = k0_pay6 (acc5 (inv (cl m c)) (augOf (W0 m c (Proc.devRef .tc main_arg1)) (W0 m c (Proc.devRef .tc main_arg2))) 10000) := by
  refine (exit_v84_1 c (W15 m)).trans ?_
  rw [show tab (W15 m) c = inv (cl m c) from W15_table m c, show stg1 (W15 m) c = augOf (W0 m c (Proc.devRef .tc main_arg1)) (W0 m c (Proc.devRef .tc main_arg2)) from
    funext fun y => (stg1_eq c (W15 m) y).trans (congrFun (W15_aug m c) y)]

/-- The table passes the region unchanged. -/
theorem W16_table : W16 m c (Proc.devRef .tc main_v78) = inv (cl m c) :=
  (exitV_of_ne (W15 m) c main_v78 (by decide)).trans (W15_table m c)

/-- The pooled features. -/
theorem W17_x : W17 m c (Proc.devRef .tc main_v84_0) = k0_pay5 (acc4 (inv (cl m c)) (W0 m c (Proc.devRef .tc main_arg0)) 10000) :=
  (keep hostOps1 _ rfl _).trans (W16_v84_0 m c)

/-- The averages, before the host takes its columns. -/
abbrev avg : FVec F S10000x8 .f32 := k0_pay6 (acc5 (inv (cl m c)) (augOf (W0 m c (Proc.devRef .tc main_arg1)) (W0 m c (Proc.devRef .tc main_arg2))) 10000)

/-- The pooled positions. -/
theorem W17_pos : W17 m c (Proc.devRef .tc main_v85) = extractStridedSlice S10000x3 ![0, 0] (avg m c) slices_S10000x8_S10000x3_0_0 := by
  rw [avg, ← W16_v84_1]
  unfold W17
  after_results_simp

/-- The pooled batch numbers. -/
theorem W17_batch : W17 m c (Proc.devRef .tc main_v88)
    = fptosi 32 (shapeCast _ (extractStridedSlice S10000x1 ![0, 4] (avg m c) slices_S10000x8_S10000x1_0_4) shapeCasts_S10000x1_S10000) := by
  rw [avg, ← W16_v84_1]
  unfold W17
  after_results_simp
  rfl

/-- The edges relabelled. -/
theorem W17_edge : W17 m c (Proc.devRef .tc main_v95)
    = Host.gather gather_S10000_S2x320000x1_S2x320000_n_0_n_n_0_2_1 (inv (cl m c)) (broadcastInDim S2x320000x1 ![0, 1] bcast_S2x320000_S2x320000x1_0_1
        (select (cmpi .slt (W0 m c (Proc.devRef .tc main_arg3)) (broadcastInDim S2x320000 ![] bcast_S_S2x320000 (constantI S_ 32 0#32)))
          (addi (W0 m c (Proc.devRef .tc main_arg3)) (broadcastInDim S2x320000 ![] bcast_S_S2x320000 (constantI S_ 32 10000#32))) (W0 m c (Proc.devRef .tc main_arg3)))) := by
  rw [← W16_table, ← W16_arg3]
  unfold W17
  after_results_simp

end Cert.KernelIdeal.Seg

end
-- ==== Proof.Sums.lean ====
/- Segment sums and segment maxima: the row-wise accumulation and the host's scatters and reductions, each as a sum or a maximum over the rows of a segment. -/
module

public import proofs.«01_k».proof.Proof.Fold
public import Idealize.ShloMosaic.Lib.Routing.Ops
public import Idealize.ShloMosaic.Lib.Routing.OpsPair
public import Idealize.ShloMosaic.PureOps.Ideal.Laws

@[expose] public section

namespace SegPool

open Idealize.ShloMosaic hiding ix1 ix2 ix3
open Idealize.ShloMosaic.ValueIdx Idealize.ShloMosaic.Routing

/-- Accumulating with a commutative sum from zero leaves, after `k` steps, the sum of the first `k` rows of the segment. -/
theorem rowFold_add {M : Type} [AddCommMonoid M] {n w : ℕ} (seg : Fin n → ℕ) (x : Fin n → Fin w → M) (s : ℕ) (j : Fin w) (k : ℕ) (hk : k ≤ n) :
    rowFold (· + ·) seg x 0 k s j = ∑ i ∈ Finset.univ.filter (fun i : Fin n => i.val < k ∧ seg i = s), x i j := by
  induction k with
  | zero => rw [Finset.filter_false_of_mem (fun i _ h => absurd h.1 (Nat.not_lt_zero _)), Finset.sum_empty, rowFold]
  | succ k ih =>
    rw [rowFold, dif_pos (show k < n from hk)]
    by_cases e : s = seg ⟨k, hk⟩
    · rw [if_pos e, ih (Nat.le_of_succ_le hk), show (Finset.univ.filter fun i : Fin n => i.val < k + 1 ∧ seg i = s)
          = insert ⟨k, hk⟩ (Finset.univ.filter fun i : Fin n => i.val < k ∧ seg i = s) from ?_, Finset.sum_insert (by simp), add_comm]
      ext i
      simp only [Finset.mem_filter, Finset.mem_univ, true_and, Finset.mem_insert]
      constructor
      · rintro ⟨h, q⟩
        rcases Nat.lt_succ_iff_lt_or_eq.1 h with h | h
        · exact .inr ⟨h, q⟩
        · exact .inl (Fin.ext h)
      · rintro (rfl | ⟨h, q⟩)
        · exact ⟨Nat.lt_succ_self _, e.symm⟩
        · exact ⟨Nat.lt_succ_of_lt h, q⟩
    · rw [if_neg e, ih (Nat.le_of_succ_le hk)]
      refine Finset.sum_congr (Finset.filter_congr fun i _ => ⟨fun ⟨h, q⟩ => ⟨Nat.lt_succ_of_lt h, q⟩, fun ⟨h, q⟩ => ⟨?_, q⟩⟩) fun _ _ => rfl
      rcases Nat.lt_succ_iff_lt_or_eq.1 h with h | h
      · exact h
      · obtain rfl : i = ⟨k, hk⟩ := Fin.ext h
        exact absurd q.symm e

/-- After all the steps: the sum over the segment. -/
theorem rowFold_add_all {M : Type} [AddCommMonoid M] {n w : ℕ} (seg : Fin n → ℕ) (x : Fin n → Fin w → M) (s : ℕ) (j : Fin w) :
    rowFold (· + ·) seg x 0 n s j = ∑ i ∈ Finset.univ.filter (fun i : Fin n => seg i = s), x i j := by
  rw [rowFold_add seg x s j n le_rfl]
  exact Finset.sum_congr (Finset.filter_congr fun i _ => ⟨fun h => h.2, fun h => ⟨i.isLt, h⟩⟩) fun _ _ => rfl

/-- Accumulating the maximum from `z`: a bound of the row is a bound of `z` and of the first `k` rows of the segment. -/
theorem rowFold_max {M : Type} [LinearOrder M] {n w : ℕ} (seg : Fin n → ℕ) (x : Fin n → Fin w → M) (z : M) (s : ℕ) (j : Fin w) (b : M) (k : ℕ) (hk : k ≤ n) :
    rowFold max seg x z k s j ≤ b ↔ z ≤ b ∧ ∀ i : Fin n, i.val < k → seg i = s → x i j ≤ b := by
  induction k with
  | zero => exact ⟨fun h => ⟨h, fun i h => absurd h (Nat.not_lt_zero _)⟩, fun h => h.1⟩
  | succ k ih =>
    have ih := ih (Nat.le_of_succ_le hk)
    rw [rowFold, dif_pos (show k < n from hk)]
    by_cases e : s = seg ⟨k, hk⟩
    · rw [if_pos e, max_le_iff, ih]
      constructor
      · rintro ⟨⟨h0, h1⟩, h2⟩
        refine ⟨h0, fun i h q => ?_⟩
        rcases Nat.lt_succ_iff_lt_or_eq.1 h with h | h
        · exact h1 i h q
        · obtain rfl : i = ⟨k, hk⟩ := Fin.ext h
          exact h2
      · rintro ⟨h0, h1⟩
        exact ⟨⟨h0, fun i h => h1 i (Nat.lt_succ_of_lt h)⟩, h1 _ (Nat.lt_succ_self _) e.symm⟩
    · rw [if_neg e, ih]
      refine and_congr_right fun _ => ⟨fun h1 i h q => ?_, fun h1 i h => h1 i (Nat.lt_succ_of_lt h)⟩
      rcases Nat.lt_succ_iff_lt_or_eq.1 h with h | h
      · exact h1 i h q
      · obtain rfl : i = ⟨k, hk⟩ := Fin.ext h
        exact absurd q.symm e

/-- Element `(i, j)` of a scatter of `N` rows, one row number each, lands at `(r, c)` exactly when row number `i`, read signed, is `r`, and `j` is `c`. -/
theorem rows_land {N C : ℕ} (d : ScatterDims (shape2 N C) (shape2 N 1) (shape2 N C)) (huw : d.updateWindowDims = [1]) (hiw : d.insertedWindowDims = [0])
    (hsd : d.scatterDimsToOperandDims = [0]) (hivd : d.indexVectorDim = 1) (idx : IVec (shape2 N 1) 32) (i r : Fin N) (j c : Fin C) :
    d.resultIdx? (ix2 i j) idx = some (ix2 r c) ↔ (idx (ix2 i (0 : Fin 1))).toInt = (r.val : Int) ∧ j = c := by
  have hm : (0 : Fin 2) ∈ d.scatterDimsToOperandDims := by rw [hsd]; exact List.mem_singleton.2 rfl
  have hkept : d.sKept = [1] := by
    show (shape2 N C).kept d.insertedWindowDims = _
    rw [hiw]; rfl
  have hus : d.uScatter = [0] := by
    show (shape2 N C).kept d.updateWindowDims = _
    rw [huw]; rfl
  have hwin0 : d.window (ix2 i j) 0 = 0 := by
    unfold ScatterDims.window
    rw [dif_neg fun h => (of_decide_eq_true (List.mem_filter.1 h).2) (by rw [hiw]; exact List.mem_singleton.2 rfl)]
  have hwin1 : d.window (ix2 i j) 1 = j.val := by
    unfold ScatterDims.window
    rw [dif_pos (by rw [hkept]; exact List.mem_singleton.2 rfl)]
    have q : ∀ X : Fin 2, X ∈ d.updateWindowDims → (ix2 i j X).val = j.val := fun X hX => by
      rw [huw] at hX
      obtain rfl := List.mem_singleton.1 hX
      rfl
    exact q _ (List.getElem_mem _)
  have hstart1 : d.start (ix2 i j) idx 1 = 0 := by
    unfold ScatterDims.start
    rw [dif_neg fun h => by rw [hsd] at h; exact absurd (List.mem_singleton.1 h) (by decide : (1 : Fin 2) ≠ 0)]
  have hstart0 : d.start (ix2 i j) idx 0 = (idx (ix2 i (0 : Fin 1))).toInt := by
    unfold ScatterDims.start
    rw [dif_pos hm]
    have hsi : d.siIdx (ix2 i j) ⟨d.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have q : ∀ X : Fin 2, X ∈ d.uScatter → (ix2 i j X).val = i.val := fun X hX => by
          rw [hus] at hX
          obtain rfl := List.mem_singleton.1 hX
          rfl
        exact q _ (List.getElem_mem _)
      | ⟨1, _⟩ =>
        unfold ScatterDims.siIdx
        rw [dif_pos (by rw [hivd])]
        show List.idxOf (0 : Fin 2) d.scatterDimsToOperandDims = 0
        rw [hsd]; simp
    rw [hsi]
  rw [Fin.ext_iff, resultIdx?_ix2, hstart0, hwin0, hstart1, hwin1]
  omega

/-- A row number below 2³¹ read signed. -/
theorem toInt_eq_iff {a : BitVec 32} (h : a.toNat < 2 ^ 31) (r : ℕ) : a.toInt = (r : Int) ↔ a.toNat = r := by
  rw [BitVec.toInt_eq_toNat_of_lt (by omega)]; omega

/-- The sum of rows scattered into zeros, the rows' numbers given: at `(s, j)` the sum over the rows numbered `s`. -/
theorem scatter_rows_add {N C : ℕ} (d : ScatterDims (shape2 N C) (shape2 N 1) (shape2 N C)) (huw : d.updateWindowDims = [1]) (hiw : d.insertedWindowDims = [0])
    (hsd : d.scatterDimsToOperandDims = [0]) (hivd : d.indexVectorDim = 1) (x0 : (shape2 N C).Idx → EReal) (idx : IVec (shape2 N 1) 32)
    (t : IVec (shape1 N) 32) (ht : ∀ i, idx (ix2 i (0 : Fin 1)) = t (ix1 i)) (hlt : ∀ i, (t (ix1 i)).toNat < 2 ^ 31) (x : (shape2 N C).Idx → EReal)
    (s : Fin N) (j : Fin C) :
    Ideal.hostScatterAdd d x0 idx x (ix2 s j) = x0 (ix2 s j) + ∑ i ∈ Finset.univ.filter (fun i : Fin N => (t (ix1 i)).toNat = s.val), x (ix2 i j) := by
  refine congrArg (x0 (ix2 s j) + ·) ?_
  refine Finset.sum_nbij' (fun p => (p 0 : Fin N)) (fun i => ix2 i j) ?_ ?_ ?_ ?_ ?_
  · intro p hp
    obtain ⟨i, j', rfl⟩ : ∃ i j', p = ix2 i j' := ⟨p 0, p 1, (ix2_eta p).symm⟩
    have h := (rows_land d huw hiw hsd hivd idx i s j' j).1 (Finset.mem_filter.1 hp).2
    rw [ht, toInt_eq_iff (hlt i)] at h
    exact Finset.mem_filter.2 ⟨Finset.mem_univ _, h.1⟩
  · intro i hi
    refine Finset.mem_filter.2 ⟨Finset.mem_univ _, (rows_land d huw hiw hsd hivd idx i s j j).2 ⟨?_, rfl⟩⟩
    rw [ht, toInt_eq_iff (hlt i)]
    exact (Finset.mem_filter.1 hi).2
  · intro p hp
    obtain ⟨i, j', rfl⟩ : ∃ i j', p = ix2 i j' := ⟨p 0, p 1, (ix2_eta p).symm⟩
    rw [← ((rows_land d huw hiw hsd hivd idx i s j' j).1 (Finset.mem_filter.1 hp).2).2]
    rfl
  · intro i _; rfl
  · intro p hp
    obtain ⟨i, j', rfl⟩ : ∃ i j', p = ix2 i j' := ⟨p 0, p 1, (ix2_eta p).symm⟩
    rw [← ((rows_land d huw hiw hsd hivd idx i s j' j).1 (Finset.mem_filter.1 hp).2).2]
    rfl

/-- The same for single numbers. -/
theorem scatter_one_add {N : ℕ} (d : ScatterDims (shape1 N) (shape2 N 1) (shape1 N)) (hiw : d.insertedWindowDims = [0])
    (hsd : d.scatterDimsToOperandDims = [0]) (hivd : d.indexVectorDim = 1) (x0 : (shape1 N).Idx → EReal) (idx : IVec (shape2 N 1) 32)
    (t : IVec (shape1 N) 32) (ht : ∀ i, idx (ix2 i (0 : Fin 1)) = t (ix1 i)) (hlt : ∀ i, (t (ix1 i)).toNat < 2 ^ 31) (x : (shape1 N).Idx → EReal)
    (s : Fin N) :
    Ideal.hostScatterAdd d x0 idx x (ix1 s) = x0 (ix1 s) + ∑ i ∈ Finset.univ.filter (fun i : Fin N => (t (ix1 i)).toNat = s.val), x (ix1 i) := by
  refine congrArg (x0 (ix1 s) + ·) ?_
  refine Finset.sum_nbij' (fun p => (p 0 : Fin N)) (fun i => ix1 i) ?_ ?_ ?_ ?_ ?_
  · intro p hp
    obtain ⟨i, rfl⟩ : ∃ i, p = ix1 i := ⟨p 0, (ix1_eta p).symm⟩
    have h := (scatter_lands_signed d hiw hsd hivd idx i s).1 (Finset.mem_filter.1 hp).2
    rw [ht, toInt_eq_iff (hlt i)] at h
    exact Finset.mem_filter.2 ⟨Finset.mem_univ _, h⟩
  · intro i hi
    refine Finset.mem_filter.2 ⟨Finset.mem_univ _, (scatter_lands_signed d hiw hsd hivd idx i s).2 ?_⟩
    rw [ht, toInt_eq_iff (hlt i)]
    exact (Finset.mem_filter.1 hi).2
  · intro p _; exact ix1_eta p
  · intro i _; rfl
  · intro p _; exact congrArg x (ix1_eta p).symm

/-- An index of a vector is its one coordinate's. -/
theorem exists_ix1 {N : ℕ} (p : (shape1 N).Idx) : ∃ i : Fin N, p = ix1 i := ⟨p 0, (ix1_eta p).symm⟩

/-- A scatter whose updates landing on `s` all equal `b`, with a body that keeps `b`: `b` where something lands and `z` where nothing does. -/
theorem scatter_const {α : Type} {N : ℕ} (d : ScatterDims (shape1 N) (shape2 N 1) (shape1 N)) (hiw : d.insertedWindowDims = [0])
    (hsd : d.scatterDimsToOperandDims = [0]) (hivd : d.indexVectorDim = 1) (f : α → α → α) (x0 : (shape1 N).Idx → α) (idx : IVec (shape2 N 1) 32)
    (t : IVec (shape1 N) 32) (ht : ∀ i, idx (ix2 i (0 : Fin 1)) = t (ix1 i)) (hlt : ∀ i, (t (ix1 i)).toNat < 2 ^ 31) (x : (shape1 N).Idx → α)
    (s : Fin N) (b : α) (hz : f (x0 (ix1 s)) b = b) (hb : f b b = b) (he : ∀ i, (t (ix1 i)).toNat = s.val → x (ix1 i) = b) (k : Fin N)
    (hk : (t (ix1 k)).toNat = s.val) : Host.scatter d f x0 idx x (ix1 s) = b := by
  rw [scatter_at]
  have hland : ∀ i : Fin N, d.resultIdx? (ix1 i) idx = some (ix1 s) ↔ (t (ix1 i)).toNat = s.val := fun i => by
    rw [scatter_lands_signed d hiw hsd hivd idx i s, ht, toInt_eq_iff (hlt i)]
  -- a step keeps `b`, and a step on `s` makes it
  have hstep : ∀ (n : Fin (shape1 N).numel) (a : α), (a = x0 (ix1 s) ∨ a = b) →
      ((if d.resultIdx? ((shape1 N).rowMajor.symm n) idx = some (ix1 s) then f a (x ((shape1 N).rowMajor.symm n)) else a) = b
        ∨ (d.resultIdx? ((shape1 N).rowMajor.symm n) idx ≠ some (ix1 s)
          ∧ (if d.resultIdx? ((shape1 N).rowMajor.symm n) idx = some (ix1 s) then f a (x ((shape1 N).rowMajor.symm n)) else a) = a)) := by
    intro n a ha
    by_cases e : d.resultIdx? ((shape1 N).rowMajor.symm n) idx = some (ix1 s)
    · left
      rw [if_pos e]
      obtain ⟨i, hi⟩ := exists_ix1 ((shape1 N).rowMajor.symm n)
      rw [hi] at e ⊢
      rw [he _ ((hland _).1 e)]
      rcases ha with rfl | rfl
      · exact hz
      · exact hb
    · exact .inr ⟨e, if_neg e⟩
  have hall : ∀ (L : List (Fin (shape1 N).numel)) (a : α), (a = x0 (ix1 s) ∨ a = b) →
      (a = b ∨ ∃ n ∈ L, d.resultIdx? ((shape1 N).rowMajor.symm n) idx = some (ix1 s)) →
      L.foldl (fun a n => if d.resultIdx? ((shape1 N).rowMajor.symm n) idx = some (ix1 s) then f a (x ((shape1 N).rowMajor.symm n)) else a) a = b := by
    intro L
    induction L with
    | nil =>
      rintro a _ (h | ⟨n, h, _⟩)
      · exact h
      · exact absurd h List.not_mem_nil
    | cons n L ih =>
      intro a ha h
      rw [List.foldl_cons]
      rcases hstep n a ha with e | ⟨hn, e⟩
      · rw [e]; exact ih b (.inr rfl) (.inl rfl)
      · rw [e]
        refine ih a ha ?_
        rcases h with h | ⟨n', h', q⟩
        · exact .inl h
        · rcases List.mem_cons.1 h' with rfl | h'
          · exact absurd q hn
          · exact .inr ⟨n', h', q⟩
  refine hall _ _ (.inl rfl) (.inr ⟨(shape1 N).rowMajor (ix1 k), List.mem_finRange _, ?_⟩)
  rw [Equiv.symm_apply_apply]
  exact (hland k).2 hk

/-- A scatter nothing of which lands on `s` keeps the operand there. -/
theorem scatter_none {α : Type} {N : ℕ} (d : ScatterDims (shape1 N) (shape2 N 1) (shape1 N)) (hiw : d.insertedWindowDims = [0])
    (hsd : d.scatterDimsToOperandDims = [0]) (hivd : d.indexVectorDim = 1) (f : α → α → α) (x0 : (shape1 N).Idx → α) (idx : IVec (shape2 N 1) 32)
    (t : IVec (shape1 N) 32) (ht : ∀ i, idx (ix2 i (0 : Fin 1)) = t (ix1 i)) (hlt : ∀ i, (t (ix1 i)).toNat < 2 ^ 31) (x : (shape1 N).Idx → α)
    (s : Fin N) (he : ∀ i, (t (ix1 i)).toNat ≠ s.val) : Host.scatter d f x0 idx x (ix1 s) = x0 (ix1 s) := by
  rw [scatter_at]
  refine List.foldl_fixed' (fun n => if_neg fun e => ?_) _
  obtain ⟨i, hi⟩ := exists_ix1 ((shape1 N).rowMajor.symm n)
  rw [hi, scatter_lands_signed d hiw hsd hivd idx _ s, ht, toInt_eq_iff (hlt _)] at e
  exact he _ e

/-- The host's maximum along the middle axis: its bounds are the bounds of the initial value and of the numbers along that axis. -/
theorem reduce_max_mid {A B C : ℕ} {u : Shape} (x : (⟨3, ![A, B, C]⟩ : Shape).Idx → EReal) (init : u.Idx → EReal)
    (h' : (⟨3, ![A, B, C]⟩ : Shape).ReducesTo [1] ⟨2, ![A, C]⟩) (h : (⟨3, ![A, B, C]⟩ : Shape).Reduces [1] ⟨2, ![A, C]⟩) (hu : 0 < u.numel)
    (s : Fin A) (j : Fin C) (b : EReal) :
    Host.reduce (FloatOps.maximumf (F := Ideal) (φ := .f32)) x init h' hu (ix2 s j) ≤ b ↔ init (Shape.Idx.first hu) ≤ b ∧ ∀ k : Fin B, x (ix3 s k j) ≤ b := by
  rw [Host.reduce_eq_fold_single (FloatOps.maximumf (F := Ideal) (φ := .f32)) x init h' h hu]
  refine (Finset.fold_max_le b).trans (and_congr_right fun _ => ?_)
  have e : ∀ k : Fin B, h.lift (ix2 s j) k = ix3 s k j := fun k => funext fun a => by
    match a with
    | ⟨0, _⟩ => rfl
    | ⟨1, _⟩ => rfl
    | ⟨2, _⟩ => rfl
  exact ⟨fun q k => e k ▸ q k (Finset.mem_univ _), fun q k _ => (congrArg x (e k)).trans_le (q k)⟩

end SegPool

end
-- ==== Proof.EqualA.lean ====
/- The results of the kernel's run and of the reference's, over the extended reals, are the same numbers: the clusters, the features, the positions, the edges. -/
module

public import proofs.«01_k».proof.Proof.ResI
public import proofs.«01_k».proof.Proof.Sums
public import proofs.«01_k».proof.Proof.Gen.ReferenceIdeal.Run
public import Idealize.ShloMosaic.PureOps.Ideal.Laws

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool
open Cert.ReferenceIdeal.Value (res_main_v0 res_main_v1 res_main_v10 res_main_v16 res_main_v33 res_main_v78 res_main_v86)

variable {F : FTy → Type} [FloatOps F]

/-- A column read as a vector. -/
theorem cast_col {α : Type} {n : ℕ} (x : (⟨2, ![n, 1]⟩ : Shape).Idx → α) (h : (⟨2, ![n, 1]⟩ : Shape).ShapeCasts ⟨1, ![n]⟩) (i : Fin n) :
    shapeCast ⟨1, ![n]⟩ x h (ix1 i) = x (ix2 i 0) := by
  refine shapeCast_apply x h _ _ ?_
  rw [Shape.rowMajor_val_one, Shape.rowMajor_val_two]
  show i.val * 1 + 0 = i.val
  omega

/-- A vector of one number read as the number. -/
theorem cast_one {α : Type} (x : (⟨1, ![1]⟩ : Shape).Idx → α) (h : (⟨1, ![1]⟩ : Shape).ShapeCasts ⟨0, ![]⟩) (j : (⟨0, ![]⟩ : Shape).Idx) :
    shapeCast ⟨0, ![]⟩ x h j = x (ix1 0) :=
  congrArg x (funext fun a => by
    obtain rfl : a = 0 := Subsingleton.elim (α := Fin 1) _ _
    exact Subsingleton.elim (α := Fin 1) _ _)

/-- A column of the voxels. -/
theorem vox_col (v : IVec S10000x2 32) (k : Fin 2) (h : S10000x2.Slices ![0, k.val] S10000x1) (h' : S10000x1.ShapeCasts S10000) (i : Fin 10000) :
    shapeCast S10000 (extractStridedSlice S10000x1 ![0, k.val] v h) h' (ix1 i) = v (ix2 i k) :=
  (cast_col (n := 10000) _ h' i).trans (congrArg v (funext fun a => by
    match a with
    | ⟨0, _⟩ => exact Fin.ext (Nat.zero_add _)
    | ⟨1, _⟩ => exact Fin.ext (Nat.add_zero _)))

/-- An entry of the voxel counts. -/
theorem num_entry (v : IVec S2 32) (k : Fin 2) (h : S2.Slices ![k.val] S1) (h' : S1.ShapeCasts S_) (j : S_.Idx) :
    shapeCast S_ (extractStridedSlice S1 ![k.val] v h) h' j = v (ix1 k) :=
  (cast_one _ h' j).trans (congrArg v (funext fun a => by
    obtain rfl : a = 0 := Subsingleton.elim (α := Fin 1) _ _
    exact Fin.ext (Nat.add_zero _)))

/-- The least coordinates, -/
def low (pos : FVec F S10000x3 .f32) : FVec F S2 .f32 :=
  Host.reduce FloatOps.minimumf (extractStridedSlice S10000x2 ![0, 0] pos slices_S10000x3_S10000x2_0_0) (constant S_ .f32 0x7F800000#32) reducesTo_S10000x2_S2_d0 h_S_

/-- the greatest, -/
def high (pos : FVec F S10000x3 .f32) : FVec F S2 .f32 :=
  Host.reduce FloatOps.maximumf (extractStridedSlice S10000x2 ![0, 0] pos slices_S10000x3_S10000x2_0_0) (constant S_ .f32 0xFF800000#32) reducesTo_S10000x2_S2_d0 h_S_

/-- each node's voxel, -/
def vox (pos : FVec F S10000x3 .f32) : IVec S10000x2 32 :=
  fptosi 32 (Host.floor (Host.divf (subf (extractStridedSlice S10000x2 ![0, 0] pos slices_S10000x3_S10000x2_0_0) (broadcastInDim S10000x2 ![0, 1] bcast_S1x2_S10000x2_0_1 (broadcastInDim S1x2 ![1] bcast_S2_S1x2_1 (low pos)))) (broadcastInDim S10000x2 ![0, 1] bcast_S1x2_S10000x2_0_1 (broadcastInDim S1x2 ![1] bcast_S2_S1x2_1 (constant S2 .f32 0x3D4CCCCD#32)))))

/-- the number of voxels along each axis, -/
def num (pos : FVec F S10000x3 .f32) : IVec S2 32 :=
  fptosi 32 (addf (Host.floor (Host.divf (subf (high pos) (low pos)) (constant S2 .f32 0x3D4CCCCD#32))) (broadcastInDim S2 ![] bcast_S_S2 (constant S_ .f32 0x3F800000#32)))

/-- and a node's cluster number. -/
def clusterAt (pos : FVec F S10000x3 .f32) (batch : IVec S10000 32) (i : Fin 10000) : BitVec 32 :=
  batch (ix1 i) * (num pos (ix1 0) * num pos (ix1 1)) + (vox pos (ix2 i 0) + vox pos (ix2 i 1) * num pos (ix1 0))

set_option maxHeartbeats 2000000 in
/-- The kernel's host computes it, -/
theorem cl_at (m : (ℓ : Loc nD τ sig) → Buf (Elt F) ℓ) (c : Dev nD) (i : Fin 10000) :
    cl m c (ix1 i) = clusterAt (W0 m c (Proc.devRef .tc main_arg1)) (W0 m c (Proc.devRef .tc main_arg2)) i := by
  unfold clusterAt
  rw [← BitVec.add_assoc]
  show W1 m c (Proc.devRef .tc main_v33) (ix1 i) = _
  unfold W1
  after_results_simp
  exact congrArg₂ (· + ·) (congrArg₂ (· + ·) (congrArg (HMul.hMul (α := BitVec 32) (β := BitVec 32) (γ := BitVec 32) _) (congrArg₂ (· * ·) (num_entry _ 0 _ _ _) (num_entry _ 1 _ _ _))) (vox_col _ 0 _ _ i))
    (congrArg₂ (· * ·) (vox_col _ 1 _ _ i) (num_entry _ 0 _ _ _))

/-- and the reference. -/
theorem ref_at (V0 : Valuation Cert.ReferenceIdeal.τ Cert.ReferenceIdeal.sig (Elt F)) (i : Fin 10000) :
    res_main_v33 V0 (ix1 i) = clusterAt (V0 (Proc.devRef .tc Cert.ReferenceIdeal.main_arg1)) (V0 (Proc.devRef .tc Cert.ReferenceIdeal.main_arg2)) i :=
  congrArg₂ (· + ·) (congrArg (HMul.hMul (α := BitVec 32) (β := BitVec 32) (γ := BitVec 32) _) (congrArg₂ (· * ·) (num_entry _ 0 _ _ _) (num_entry _ 1 _ _ _)))
    (congrArg₂ (· + ·) (vox_col _ 0 _ _ i) (congrArg₂ (· * ·) (vox_col _ 1 _ _ i) (num_entry _ 0 _ _ _)))

/-- The reference's table is the same function of its cluster numbers. -/
theorem ref_table (V0 : Valuation Cert.ReferenceIdeal.τ Cert.ReferenceIdeal.sig (Elt F)) : res_main_v78 V0 = inv (res_main_v33 V0) := by
  rfl

/-- On the same positions and batch numbers the reference's table is the kernel's. -/
theorem table_eq (m : (ℓ : Loc nD τ sig) → Buf (Elt F) ℓ) (c : Dev nD) (V0 : Valuation Cert.ReferenceIdeal.τ Cert.ReferenceIdeal.sig (Elt F))
    (h1 : V0 (Proc.devRef .tc Cert.ReferenceIdeal.main_arg1) = W0 m c (Proc.devRef .tc main_arg1))
    (h2 : V0 (Proc.devRef .tc Cert.ReferenceIdeal.main_arg2) = W0 m c (Proc.devRef .tc main_arg2)) : res_main_v78 V0 = inv (cl m c) := by
  rw [ref_table]
  refine congrArg inv (funext fun p => ?_)
  obtain ⟨i, rfl⟩ : ∃ i : Fin 10000, p = ix1 i := ⟨p 0, funext fun a => by obtain rfl : a = 0 := Subsingleton.elim (α := Fin 1) _ _; rfl⟩
  rw [ref_at, cl_at, h1, h2]

/-- The number −∞. -/
theorem neg_inf : (Scalar.ofBits (F := Ideal) .f32 0xFF800000#32 : EReal) = ⊥ := by
  show Ideal.ofBits .f32 0xFF800000#32 = ⊥
  simp [Ideal.ofBits, Ideal.ieee]

/-- The reference's maximum over the nodes of a segment is the kernel's running one. -/
theorem acc4_eq (V0 : Valuation Cert.ReferenceIdeal.τ Cert.ReferenceIdeal.sig (Elt Ideal)) (T : IVec S10000 32) (hv : res_main_v78 V0 = T) :
    acc4 (F := Ideal) T (V0 (Proc.devRef .tc Cert.ReferenceIdeal.main_arg0)) 10000 = res_main_v86 V0 := by
  funext p
  obtain ⟨s, j, rfl⟩ : ∃ (s : Fin 10000) (j : Fin 128), p = ix2 s j := ⟨p 0, p 1, funext fun a => by
    match a with
    | ⟨0, _⟩ => rfl
    | ⟨1, _⟩ => rfl⟩
  refine eq_of_forall_ge_iff fun b => ?_
  unfold res_main_v86
  rw [hv]
  refine (rowFold_max (M := EReal) (segOf T) (fun r j => V0 (Proc.devRef .tc Cert.ReferenceIdeal.main_arg0) (ix2 r j)) _ s.val j b 10000 le_rfl).trans ?_
  refine Iff.trans ?_ (reduce_max_mid (A := 10000) (B := 10000) (C := 128) _ _ _ (by decide) _ s j b).symm
  refine and_congr_right fun h0 => ?_
  -- the element of the masked table at node `k`
  have hsel : ∀ k : Fin 10000, ∀ a : EReal, Scalar.select (IntOp.cmpi .eq (T (ix1 k)) (BitVec.ofNat 32 s.val)) a (Scalar.ofBits (F := Ideal) .f32 0xFF800000#32)
      = if segOf T k = s.val then a else ⊥ := fun k a => by
    have hs := s.isLt
    rw [neg_inf]
    unfold Scalar.select IntOp.cmpi
    by_cases e : segOf T k = s.val
    · have e' : T (ix1 k) = BitVec.ofNat 32 s.val := BitVec.eq_of_toNat_eq (by rw [BitVec.toNat_ofNat, Nat.mod_eq_of_lt (by omega)]; exact e)
      rw [if_pos e, e']
      simp
    · have e' : T (ix1 k) ≠ BitVec.ofNat 32 s.val := fun q => e (by
        show (T (ix1 k)).toNat = _
        rw [q, BitVec.toNat_ofNat, Nat.mod_eq_of_lt (by omega)])
      rw [if_neg e, beq_false_of_ne e']
      rfl
  refine forall_congr' fun k => ?_
  refine Iff.trans ?_ (iff_of_eq (congrArg (fun z : EReal => z ≤ b) ((congr (congrArg₂ Scalar.select (congrArg₂ (IntOp.cmpi .eq) (congrArg T (a₂ := ix1 k) (funext fun a => ?_)) rfl)
    (congrArg (V0 (Proc.devRef .tc Cert.ReferenceIdeal.main_arg0)) (a₂ := ix2 k j) (funext fun a => ?_))) rfl).trans (hsel k _)))).symm
  · split
    · next e => exact ⟨fun q => q k.isLt e, fun q _ _ => q⟩
    · next e => exact ⟨fun _ => bot_le, fun _ _ q => absurd q e⟩
  · obtain rfl : a = 0 := Subsingleton.elim (α := Fin 1) _ _
    rfl
  · match a with
    | ⟨0, _⟩ => rfl
    | ⟨1, _⟩ => rfl

/-- The pooled features are the reference's. -/
theorem x_eq (V0 : Valuation Cert.ReferenceIdeal.τ Cert.ReferenceIdeal.sig (Elt Ideal)) (T : IVec S10000 32) (hv : res_main_v78 V0 = T) :
    k0_pay5 (F := Ideal) (acc4 (F := Ideal) T (V0 (Proc.devRef .tc Cert.ReferenceIdeal.main_arg0)) 10000)
      = select (cmpf .oeq (res_main_v86 V0) (broadcastInDim Cert.ReferenceIdeal.S10000x128 ![] Cert.ReferenceIdeal.Gen.bcast_S_S10000x128 (constant Cert.ReferenceIdeal.S_ .f32 0xFF800000#32)))
          (broadcastInDim Cert.ReferenceIdeal.S10000x128 ![] Cert.ReferenceIdeal.Gen.bcast_S_S10000x128 (id (constant Cert.ReferenceIdeal.S_ .f32 0x00000000#32))) (res_main_v86 V0) := by
  rw [acc4_eq V0 T hv]
  unfold k0_pay5
  simp only [shapeCast_id]
  rfl

/-- What a segment's running sums end at. -/
theorem acc5_at (T : IVec S10000 32) (x : S10000x8.Idx → EReal) (s : Fin 10000) (j : Fin 8) :
    acc5 (F := Ideal) T x 10000 (ix2 s j) = ∑ i ∈ Finset.univ.filter (fun i : Fin 10000 => (T (ix1 i)).toNat = s.val), x (ix2 i j) := by
  have h0 : (Scalar.ofBits (F := Ideal) .f32 0x00000000#32 : EReal) = 0 := Ideal.ofBits_zero_f32
  show rowFold (· + ·) (segOf T) (fun r j => x (ix2 r j)) (Scalar.ofBits (F := Ideal) .f32 0x00000000#32 : EReal) 10000 s.val j = _
  rw [h0, rowFold_add_all]
  rfl

/-- The columns summed: the position, -/
theorem aug_pos (pos : FVec Ideal S10000x3 .f32) (batch : IVec S10000 32) (i : Fin 10000) (j : Fin 3) :
    augOf pos batch (ix2 i ⟨j.val, by omega⟩) = pos (ix2 i j) := by
  match j with
  | ⟨0, _⟩ => exact congrArg pos (funext fun a => by
      match a with
      | ⟨0, _⟩ => rfl
      | ⟨1, _⟩ => rfl)
  | ⟨1, _⟩ => exact congrArg pos (funext fun a => by
      match a with
      | ⟨0, _⟩ => rfl
      | ⟨1, _⟩ => rfl)
  | ⟨2, _⟩ => exact congrArg pos (funext fun a => by
      match a with
      | ⟨0, _⟩ => rfl
      | ⟨1, _⟩ => rfl)

/-- a one, -/
theorem aug_one (pos : FVec Ideal S10000x3 .f32) (batch : IVec S10000 32) (i : Fin 10000) : augOf pos batch (ix2 i 3) = Scalar.ofBits .f32 0x3F800000#32 := rfl

/-- and the batch number. -/
theorem aug_batch (pos : FVec Ideal S10000x3 .f32) (batch : IVec S10000 32) (i : Fin 10000) :
    augOf pos batch (ix2 i 4) = (((batch (ix1 i)).toInt : ℝ) : EReal) :=
  congrArg (fun b : BitVec 32 => ((b.toInt : ℝ) : EReal)) (congrArg batch (funext fun a => by
    obtain rfl : a = 0 := Subsingleton.elim (α := Fin 1) _ _
    rfl))

/-- A column spread over the eight is read at its row. -/
theorem spread {α : Type} (x : S10000x1.Idx → α) (h : S10000x1.Broadcasts S10000x8) (s : Fin 10000) (j : Fin 8) : broadcastTo S10000x8 x h (ix2 s j) = x (ix2 s 0) :=
  congrArg x (funext fun a => by
    match a with
    | ⟨0, _⟩ => rfl
    | ⟨1, _⟩ => rfl)

/-- The fourth column. -/
theorem fourth {α : Type} (x : S10000x8.Idx → α) (h : S10000x8.Slices ![0, 3] S10000x1) (s : Fin 10000) : extractStridedSlice S10000x1 ![0, 3] x h (ix2 s 0) = x (ix2 s 3) :=
  congrArg x (funext fun a => by
    match a with
    | ⟨0, _⟩ => exact Fin.ext (Nat.zero_add _)
    | ⟨1, _⟩ => rfl)

/-- What is written of the running sums, element by element. -/
theorem pay6_at (v : FVec Ideal S10000x8 .f32) (s : Fin 10000) (j : Fin 8) :
    k0_pay6 (F := Ideal) v (ix2 s j)
      = Scalar.select (IntOp.cmpi .eq (BitVec.ofNat 32 j.val) 4#32)
          (Scalar.select (FloatOps.cmpf .ogt (v (ix2 s 3)) (Scalar.ofBits .f32 0x00000000#32))
            (FloatOps.divf (v (ix2 s j)) (FloatOps.maximumf (v (ix2 s 3)) (Scalar.ofBits .f32 0x3F800000#32))) (Scalar.ofBits .f32 0xCF000000#32))
          (Scalar.select (IntOp.cmpi .slt (BitVec.ofNat 32 j.val) 3#32)
            (FloatOps.divf (v (ix2 s j)) (FloatOps.maximumf (v (ix2 s 3)) (Scalar.ofBits .f32 0x3F800000#32))) (v (ix2 s j))) := by
  have hi : iota .tc S10000x8 32 [1] iota_S10000x8_d1_w32 (ix2 s j) = BitVec.ofNat 32 j.val := congrArg (BitVec.ofNat 32) (Nat.zero_add _)
  have hq : divf v (broadcastTo S10000x8 (maximumf (extractStridedSlice S10000x1 ![0, 3] v slices_S10000x8_o0_3_S10000x1) (broadcast S10000x1 (Scalar.ofBits .f32 0x3F800000#32))) broadcasts_S10000x1_S10000x8) (ix2 s j)
      = FloatOps.divf (v (ix2 s j)) (FloatOps.maximumf (v (ix2 s 3)) (Scalar.ofBits .f32 0x3F800000#32)) :=
    congrArg (FloatOps.divf (v (ix2 s j))) ((spread _ _ s j).trans (congrArg (FloatOps.maximumf · _) (fourth v _ s)))
  have hg : broadcastTo S10000x8 (cmpf .ogt (extractStridedSlice S10000x1 ![0, 3] v slices_S10000x8_o0_3_S10000x1) (broadcast S10000x1 (Scalar.ofBits .f32 0x00000000#32))) broadcasts_S10000x1_S10000x8 (ix2 s j)
      = FloatOps.cmpf .ogt (v (ix2 s 3)) (Scalar.ofBits .f32 0x00000000#32) :=
    (spread _ _ s j).trans (congrArg (FloatOps.cmpf .ogt · _) (fourth v _ s))
  unfold k0_pay6
  simp only [shapeCast_id]
  refine congr (congrArg₂ Scalar.select (congrArg (IntOp.cmpi .eq · _) hi) ?_) ?_
  · exact congr (congrArg₂ Scalar.select hg hq) rfl
  · exact congr (congrArg₂ Scalar.select (congrArg (IntOp.cmpi .slt · _) hi) hq) rfl

end Cert.KernelIdeal.Seg

end
-- ==== Proof.EqualB.lean ====
/- The results of the kernel's run and of the reference's, over the extended reals, are the same numbers: the positions. -/
module

public import proofs.«01_k».proof.Proof.EqualA

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool

/-- How many nodes a segment has, as the running sums count it. -/
abbrev members (T : IVec S10000 32) (s : Fin 10000) : Finset (Fin 10000) := Finset.univ.filter fun i => (T (ix1 i)).toNat = s.val

/-- Reading a vector put into a column. -/
theorem col_at (T : IVec S10000 32) (h : S10000.BroadcastsInDim S10000x1 (![0] : Fin 1 → Fin S10000x1.rank)) (i : Fin 10000) :
    broadcastInDim S10000x1 ![0] h T (ix2 i 0) = T (ix1 i) :=
  congrArg T (funext fun a => by
    obtain rfl : a = 0 := Subsingleton.elim (α := Fin 1) _ _
    rfl)

/-- A vector spread over three columns is read at its row. -/
theorem spread3 {α : Type} (x : Cert.ReferenceIdeal.S10000.Idx → α)
    (h : Cert.ReferenceIdeal.S10000x1.BroadcastsInDim Cert.ReferenceIdeal.S10000x3 (![0, 1] : Fin 2 → Fin Cert.ReferenceIdeal.S10000x3.rank))
    (h' : Cert.ReferenceIdeal.S10000.BroadcastsInDim Cert.ReferenceIdeal.S10000x1 (![0] : Fin 1 → Fin Cert.ReferenceIdeal.S10000x1.rank)) (s : Fin 10000) (j : Fin 3) :
    broadcastInDim Cert.ReferenceIdeal.S10000x3 ![0, 1] h (broadcastInDim Cert.ReferenceIdeal.S10000x1 ![0] h' x) (ix2 s j) = x (ix1 s) :=
  congrArg x (funext fun a => by
    obtain rfl : a = 0 := Subsingleton.elim (α := Fin 1) _ _
    rfl)

/-- A choice on a false bit, -/
theorem pick_no {α : Type} (a b : α) : Scalar.select 0#1 a b = b := if_neg (by decide)

/-- and on a true one. -/
theorem pick_yes {α : Type} (a b : α) : Scalar.select 1#1 a b = a := if_pos rfl

/-- The mean positions are the reference's. -/
theorem pos_eq (V0 : Valuation Cert.ReferenceIdeal.τ Cert.ReferenceIdeal.sig (Elt Ideal)) (T : IVec S10000 32) (hlt : ∀ y, (T y).toNat < 10000)
    (batch : IVec S10000 32) (pos : FVec Ideal S10000x3 .f32) :
    extractStridedSlice S10000x3 ![0, 0] (k0_pay6 (acc5 T (augOf pos batch) 10000)) slices_S10000x8_S10000x3_0_0
      = Host.divf (Host.scatterAdd Cert.ReferenceIdeal.scatter_S10000x3_S10000x1_S10000x3_1_0_0_1 (broadcastInDim Cert.ReferenceIdeal.S10000x3 ![] Cert.ReferenceIdeal.Gen.bcast_S_S10000x3 (constant Cert.ReferenceIdeal.S_ .f32 0x00000000#32)) (broadcastInDim Cert.ReferenceIdeal.S10000x1 ![0] Cert.ReferenceIdeal.Gen.bcast_S10000_S10000x1_0 T) pos)
          (broadcastInDim Cert.ReferenceIdeal.S10000x3 ![0, 1] Cert.ReferenceIdeal.Gen.bcast_S10000x1_S10000x3_0_1 (broadcastInDim Cert.ReferenceIdeal.S10000x1 ![0] Cert.ReferenceIdeal.Gen.bcast_S10000_S10000x1_0
            (maximumf (Host.scatterAdd Cert.ReferenceIdeal.scatter_S10000_S10000x1_S10000_n_0_0_1 (broadcastInDim Cert.ReferenceIdeal.S10000 ![] Cert.ReferenceIdeal.Gen.bcast_S_S10000 (constant Cert.ReferenceIdeal.S_ .f32 0x00000000#32)) (broadcastInDim Cert.ReferenceIdeal.S10000x1 ![0] Cert.ReferenceIdeal.Gen.bcast_S10000_S10000x1_0 T) (broadcastInDim Cert.ReferenceIdeal.S10000 ![] Cert.ReferenceIdeal.Gen.bcast_S_S10000 (constant Cert.ReferenceIdeal.S_ .f32 0x3F800000#32)))
              (broadcastInDim Cert.ReferenceIdeal.S10000 ![] Cert.ReferenceIdeal.Gen.bcast_S_S10000 (constant Cert.ReferenceIdeal.S_ .f32 0x3F800000#32))))) := by
  funext p
  obtain ⟨s, j, rfl⟩ : ∃ (s : Fin 10000) (j : Fin 3), p = ix2 s j := ⟨p 0, p 1, funext fun a => by
    match a with
    | ⟨0, _⟩ => rfl
    | ⟨1, _⟩ => rfl⟩
  have h31 : ∀ i : Fin 10000, (T (ix1 i)).toNat < 2 ^ 31 := fun i => (hlt _).trans (by norm_num)
  have h0 : (Scalar.ofBits (F := Ideal) .f32 0x00000000#32 : EReal) = 0 := Ideal.ofBits_zero_f32
  have hS := scatter_rows_add (N := 10000) (C := 3) Cert.ReferenceIdeal.scatter_S10000x3_S10000x1_S10000x3_1_0_0_1 rfl rfl rfl rfl
    (broadcastInDim Cert.ReferenceIdeal.S10000x3 ![] Cert.ReferenceIdeal.Gen.bcast_S_S10000x3 (constant (F := Ideal) Cert.ReferenceIdeal.S_ .f32 0x00000000#32))
    (broadcastInDim Cert.ReferenceIdeal.S10000x1 ![0] Cert.ReferenceIdeal.Gen.bcast_S10000_S10000x1_0 T) T (col_at T _) h31 pos s j
  have hC := scatter_one_add (N := 10000) Cert.ReferenceIdeal.scatter_S10000_S10000x1_S10000_n_0_0_1 rfl rfl rfl
    (broadcastInDim Cert.ReferenceIdeal.S10000 ![] Cert.ReferenceIdeal.Gen.bcast_S_S10000 (constant (F := Ideal) Cert.ReferenceIdeal.S_ .f32 0x00000000#32))
    (broadcastInDim Cert.ReferenceIdeal.S10000x1 ![0] Cert.ReferenceIdeal.Gen.bcast_S10000_S10000x1_0 T) T (col_at T _) h31
    (broadcastInDim Cert.ReferenceIdeal.S10000 ![] Cert.ReferenceIdeal.Gen.bcast_S_S10000 (constant (F := Ideal) Cert.ReferenceIdeal.S_ .f32 0x3F800000#32)) s
  have hj : j.val < 8 := by omega
  have hsl : ∀ v : FVec Ideal S10000x8 .f32, extractStridedSlice S10000x3 ![0, 0] v slices_S10000x8_S10000x3_0_0 (ix2 s j) = v (ix2 s ⟨j.val, hj⟩) := fun v =>
    congrArg v (funext fun a => by
      match a with
      | ⟨0, _⟩ => exact Fin.ext (Nat.zero_add _)
      | ⟨1, _⟩ => exact Fin.ext (Nat.zero_add _))
  have hc : ∀ j : Fin 3, IntOp.cmpi .eq (BitVec.ofNat 32 j.val) 4#32 = 0#1 ∧ IntOp.cmpi .slt (BitVec.ofNat 32 j.val) 3#32 = 1#1 := by decide
  rw [hsl, pay6_at, (hc j).1, (hc j).2, acc5_at, acc5_at]
  rw [pick_no, pick_yes]
  refine congrArg₂ Ideal.div (Eq.trans ?_ hS.symm) (Eq.trans (congrArg₂ max (Eq.trans ?_ hC.symm) rfl) ?_)
  · refine Eq.trans ?_ (congrArg (· + _) h0.symm)
    rw [zero_add]
    exact Finset.sum_congr rfl fun i _ => aug_pos pos batch i j
  · refine Eq.trans ?_ (congrArg (· + _) h0.symm)
    rw [zero_add]
    exact Finset.sum_congr rfl fun i _ => aug_one pos batch i
  · refine Eq.trans ?_ (spread3 (α := EReal) _ _ _ s j).symm
    rfl

end Cert.KernelIdeal.Seg

end
-- ==== Proof.Voxels.lean ====
/- Voxel arithmetic over the extended reals: the numbers of voxels are small, so a cluster number tells the batch number. -/
module

public import Idealize.ShloMosaic.PureOps.Ideal.Laws
public import Mathlib.Tactic.Linarith
public import Mathlib.Tactic.NormNum
public import Mathlib.Tactic.Positivity

@[expose] public section

namespace SegPool

open Idealize.ShloMosaic

/-- The voxel's side. -/
theorem side_bits : (Ideal.ofBits .f32 0x3D4CCCCD#32 : EReal) = ((13421773 / 268435456 : ℝ) : EReal) := by
  simp [Ideal.ofBits, Ideal.ieee, -EReal.coe_mul]; norm_num

/-- The word of 100, -/
theorem hundred_bits : (Ideal.ofBits .f32 0x42C80000#32 : EReal) = ((100 : ℝ) : EReal) := by
  simp [Ideal.ofBits, Ideal.ieee, -EReal.coe_mul]; norm_num

/-- of −100, -/
theorem neg_hundred_bits : (Ideal.ofBits .f32 0xC2C80000#32 : EReal) = ((-100 : ℝ) : EReal) := by
  simp [Ideal.ofBits, Ideal.ieee, -EReal.coe_mul]; norm_num

/-- of 1, -/
theorem one_bits : (Ideal.ofBits .f32 0x3F800000#32 : EReal) = ((1 : ℝ) : EReal) := by
  simp [Ideal.ofBits, Ideal.ieee, -EReal.coe_mul]; norm_num

/-- and of −2147483648. -/
theorem least_bits : (Ideal.ofBits .f32 0xCF000000#32 : EReal) = (((-2147483648 : ℤ) : ℝ) : EReal) := by
  simp [Ideal.ofBits, Ideal.ieee, -EReal.coe_mul]; norm_num

/-- A whole number in range converts to itself. -/
theorem fptosi_int (z : ℤ) (h1 : -2147483648 ≤ z) (h2 : z ≤ 2147483647) : Ideal.fptosi 32 ((z : ℝ) : EReal) = BitVec.ofInt 32 z := by
  rw [Ideal.fptosi, Ideal.toIntClamped_coe, Int.floor_intCast, Int.ceil_intCast, ite_self, min_eq_right (by norm_num; omega), max_eq_right (by norm_num; omega)]

/-- A word converted to a number and back. -/
theorem fptosi_word (b : BitVec 32) : Ideal.fptosi 32 ((b.toInt : ℝ) : EReal) = b := by
  rw [fptosi_int _ (by have := @BitVec.le_toInt 32 b; simpa using this) (by have := @BitVec.toInt_lt 32 b; omega), BitVec.ofInt_toInt]

/-- A voxel number: the position's offset over the side, rounded down, as a small natural number. -/
theorem voxel (r l h : ℝ) (h1 : l ≤ r) (h2 : r ≤ h) (h3 : h - l ≤ 200) :
    ∃ v n : ℕ, v < n ∧ n ≤ 4001
      ∧ Ideal.fptosi 32 (Ideal.liftRound Int.floor (Ideal.div ((r : EReal) - (l : EReal)) (Ideal.ofBits .f32 0x3D4CCCCD#32))) = BitVec.ofNat 32 v
      ∧ Ideal.fptosi 32 (Ideal.liftRound Int.floor (Ideal.div ((h : EReal) - (l : EReal)) (Ideal.ofBits .f32 0x3D4CCCCD#32)) + Ideal.ofBits .f32 0x3F800000#32) = BitVec.ofNat 32 n := by
  have hdiv : ∀ a : ℝ, Ideal.liftRound Int.floor (Ideal.div ((a : EReal) - (l : EReal)) (Ideal.ofBits .f32 0x3D4CCCCD#32))
      = ((⌊(a - l) * (268435456 / 13421773)⌋ : ℝ) : EReal) := fun a => by
    rw [side_bits, Ideal.div_coe (by norm_num), ← EReal.coe_sub, ← EReal.coe_mul]
    norm_num
    rfl
  have e1 : 0 ≤ ⌊(r - l) * (268435456 / 13421773)⌋ := Int.floor_nonneg.2 (mul_nonneg (by linarith) (by norm_num))
  have e2 : ⌊(r - l) * (268435456 / 13421773)⌋ ≤ ⌊(h - l) * (268435456 / 13421773)⌋ :=
    Int.floor_le_floor (by nlinarith)
  have e3 : ⌊(h - l) * (268435456 / 13421773)⌋ ≤ 4000 := by
    have : ⌊(h - l) * (268435456 / 13421773)⌋ < 4001 := Int.floor_lt.2 (by push_cast; nlinarith)
    omega
  refine ⟨⌊(r - l) * (268435456 / 13421773)⌋.toNat, (⌊(h - l) * (268435456 / 13421773)⌋ + 1).toNat, by omega, by omega, ?_, ?_⟩
  · rw [hdiv, fptosi_int _ (by omega) (by omega)]
    conv_lhs => rw [← Int.toNat_of_nonneg e1]
    rfl
  · rw [hdiv, one_bits, ← EReal.coe_add, show ((⌊(h - l) * (268435456 / 13421773)⌋ : ℝ) + 1) = ((⌊(h - l) * (268435456 / 13421773)⌋ + 1 : ℤ) : ℝ) by push_cast; rfl,
      fptosi_int _ (by omega) (by omega)]
    conv_lhs => rw [← Int.toNat_of_nonneg (show 0 ≤ ⌊(h - l) * (268435456 / 13421773)⌋ + 1 by omega)]
    rfl

/-- Cluster numbers on one grid tell the batch numbers apart. -/
theorem batch_of (n0 n1 v0 v1 w0 w1 b b' : ℕ) (hn0 : n0 ≤ 4001) (hn1 : n1 ≤ 4001) (hv0 : v0 < n0) (hv1 : v1 < n1) (hw0 : w0 < n0) (hw1 : w1 < n1)
    (hb : b < 8) (hb' : b' < 8)
    (e : BitVec.ofNat 32 b * (BitVec.ofNat 32 n0 * BitVec.ofNat 32 n1) + (BitVec.ofNat 32 v0 + BitVec.ofNat 32 v1 * BitVec.ofNat 32 n0)
      = BitVec.ofNat 32 b' * (BitVec.ofNat 32 n0 * BitVec.ofNat 32 n1) + (BitVec.ofNat 32 w0 + BitVec.ofNat 32 w1 * BitVec.ofNat 32 n0)) : b = b' := by
  have hsmall : ∀ v0 v1 : ℕ, v0 < n0 → v1 < n1 → v0 + v1 * n0 < n0 * n1 := fun v0 v1 h0 h1 => by
    have : (v1 + 1) * n0 ≤ n1 * n0 := Nat.mul_le_mul_right _ h1
    nlinarith
  have hN : n0 * n1 ≤ 4001 * 4001 := Nat.mul_le_mul hn0 hn1
  have hv := hsmall v0 v1 hv0 hv1
  have hw := hsmall w0 w1 hw0 hw1
  simp only [← BitVec.ofNat_mul, ← BitVec.ofNat_add] at e
  have e' := congrArg BitVec.toNat e
  have hbound : ∀ b : ℕ, b < 8 → b * (n0 * n1) ≤ 7 * (4001 * 4001) := fun b h => Nat.mul_le_mul (by omega) hN
  have q := hbound b hb
  have q' := hbound b' hb'
  rw [BitVec.toNat_ofNat, BitVec.toNat_ofNat, Nat.mod_eq_of_lt (by omega), Nat.mod_eq_of_lt (by omega)] at e'
  have hdiv : ∀ b c : ℕ, c < n0 * n1 → (b * (n0 * n1) + c) / (n0 * n1) = b := fun b c h => by
    rw [Nat.mul_comm, Nat.mul_add_div (by omega), Nat.div_eq_of_lt h, Nat.add_zero]
  rw [← hdiv b _ hv, e', hdiv b' _ hw]

end SegPool

end
-- ==== Proof.EqualC.lean ====
/- The results of the kernel's run and of the reference's, over the extended reals, are the same numbers: what the precondition says, and that nodes of one cluster have one batch number. -/
module

public import proofs.«01_k».proof.Proof.EqualB
public import proofs.«01_k».proof.Proof.Voxels
public import proofs.«01_k».proof.Pre_inputs
public import Idealize.ShloMosaic.Lib.ReduceAll
public import Idealize.ShloMosaic.Lib.WordCmp
public import Idealize.ShloMosaic.Lib.Pointwise.Select

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool

/-- The coordinates in the plane. -/
abbrev plane (pos : FVec Ideal S10000x3 .f32) : S10000x2.Idx → EReal := extractStridedSlice S10000x2 ![0, 0] pos slices_S10000x3_S10000x2_0_0

/-- The host's maximum along the first axis: its bounds are the bounds of the initial value and of the numbers along that axis. -/
theorem reduce_max_first (x : S10000x2.Idx → EReal) (init : S_.Idx → EReal) (k : Fin 2) (b : EReal) :
    Host.reduce (FloatOps.maximumf (F := Ideal) (φ := .f32)) x init reducesTo_S10000x2_S2_d0 h_S_ (ix1 k) ≤ b
      ↔ init (Shape.Idx.first h_S_) ≤ b ∧ ∀ i : Fin 10000, x (ix2 i k) ≤ b := by
  have h : S10000x2.Reduces [0] S2 := by decide
  rw [Host.reduce_eq_fold_single (FloatOps.maximumf (F := Ideal) (φ := .f32)) x init _ h h_S_]
  refine (Finset.fold_max_le b).trans (and_congr_right fun _ => ?_)
  have e : ∀ i : Fin 10000, h.lift (ix1 k) i = ix2 i k := fun i => funext fun a => by
    match a with
    | ⟨0, _⟩ => rfl
    | ⟨1, _⟩ => rfl
  exact ⟨fun q i => e i ▸ q i (Finset.mem_univ _), fun q i _ => (congrArg x (e i)).trans_le (q i)⟩

/-- The host's minimum along the first axis, the other way round. -/
theorem reduce_min_first (x : S10000x2.Idx → EReal) (init : S_.Idx → EReal) (k : Fin 2) (b : EReal) :
    b ≤ Host.reduce (FloatOps.minimumf (F := Ideal) (φ := .f32)) x init reducesTo_S10000x2_S2_d0 h_S_ (ix1 k)
      ↔ b ≤ init (Shape.Idx.first h_S_) ∧ ∀ i : Fin 10000, b ≤ x (ix2 i k) := by
  have h : S10000x2.Reduces [0] S2 := by decide
  rw [Host.reduce_eq_fold_single (FloatOps.minimumf (F := Ideal) (φ := .f32)) x init _ h h_S_]
  refine (Finset.le_fold_min b).trans (and_congr_right fun _ => ?_)
  have e : ∀ i : Fin 10000, h.lift (ix1 k) i = ix2 i k := fun i => funext fun a => by
    match a with
    | ⟨0, _⟩ => rfl
    | ⟨1, _⟩ => rfl
  exact ⟨fun q i => e i ▸ q i (Finset.mem_univ _), fun q i _ => (q i).trans_eq (congrArg x (e i)).symm⟩

/-- A number between −100 and 100 is a real one. -/
theorem real_between (z : EReal) (h1 : ((-100 : ℝ) : EReal) ≤ z) (h2 : z ≤ ((100 : ℝ) : EReal)) : ∃ r : ℝ, z = (r : EReal) ∧ -100 ≤ r ∧ r ≤ 100 := by
  induction z with
  | bot => exact absurd h1 (by simp)
  | top => exact absurd h2 (by simp)
  | coe r => exact ⟨r, rfl, EReal.coe_le_coe_iff.1 h1, EReal.coe_le_coe_iff.1 h2⟩

/-- The number +∞. -/
theorem pos_inf : (Scalar.ofBits (F := Ideal) .f32 0x7F800000#32 : EReal) = ⊤ := by
  show Ideal.ofBits .f32 0x7F800000#32 = ⊤
  simp [Ideal.ofBits, Ideal.ieee]

/-- A row spread over the nodes is read at its column. -/
theorem spread2 {α : Type} (x : S2.Idx → α) (h : S1x2.BroadcastsInDim S10000x2 (![0, 1] : Fin 2 → Fin S10000x2.rank))
    (h' : S2.BroadcastsInDim S1x2 (![1] : Fin 1 → Fin S1x2.rank)) (i : Fin 10000) (k : Fin 2) :
    broadcastInDim S10000x2 ![0, 1] h (broadcastInDim S1x2 ![1] h' x) (ix2 i k) = x (ix1 k) :=
  congrArg x (funext fun a => by
    obtain rfl : a = 0 := Subsingleton.elim (α := Fin 1) _ _
    rfl)

/-- The voxels along an axis are few, and every node's voxel is one of them. -/
theorem grid (pos : FVec Ideal S10000x3 .f32) (hp : ∀ (i : Fin 10000) (k : Fin 2), ((-100 : ℝ) : EReal) ≤ plane pos (ix2 i k) ∧ plane pos (ix2 i k) ≤ ((100 : ℝ) : EReal)) (k : Fin 2) :
    ∃ n : ℕ, n ≤ 4001 ∧ num pos (ix1 k) = BitVec.ofNat 32 n ∧ ∀ i : Fin 10000, ∃ v : ℕ, v < n ∧ vox pos (ix2 i k) = BitVec.ofNat 32 v := by
  have hlow := reduce_min_first (plane pos) (constant (F := Ideal) S_ .f32 0x7F800000#32) k
  have hhigh := reduce_max_first (plane pos) (constant (F := Ideal) S_ .f32 0xFF800000#32) k
  have l1 := ((hlow _).1 le_rfl).2
  have g1 := ((hhigh _).1 le_rfl).2
  have l2 := (hlow ((-100 : ℝ) : EReal)).2 ⟨le_of_le_of_eq le_top pos_inf.symm, fun i => (hp i k).1⟩
  have g2 := (hhigh ((100 : ℝ) : EReal)).2 ⟨le_of_eq_of_le neg_inf bot_le, fun i => (hp i k).2⟩
  obtain ⟨l, el, l3, -⟩ := real_between _ l2 ((l1 0).trans (hp 0 k).2)
  obtain ⟨g, eg, -, g3⟩ := real_between _ ((hp 0 k).1.trans (g1 0)) g2
  have elow : (low pos (ix1 k) : EReal) = (l : EReal) := el
  have ehigh : (high pos (ix1 k) : EReal) = (g : EReal) := eg
  have hnum : num pos (ix1 k) = Ideal.fptosi 32 (Ideal.liftRound Int.floor (Ideal.div ((g : EReal) - (l : EReal)) (Ideal.ofBits .f32 0x3D4CCCCD#32)) + Ideal.ofBits .f32 0x3F800000#32) := by
    rw [← elow, ← ehigh]
    rfl
  have hvox : ∀ (i : Fin 10000) (r : ℝ), plane pos (ix2 i k) = (r : EReal) →
      vox pos (ix2 i k) = Ideal.fptosi 32 (Ideal.liftRound Int.floor (Ideal.div ((r : EReal) - (l : EReal)) (Ideal.ofBits .f32 0x3D4CCCCD#32))) := fun i r e => by
    rw [← elow, ← e]
    unfold vox
    exact congrArg (fun q : EReal => Ideal.fptosi 32 (Ideal.liftRound Int.floor (Ideal.div (plane pos (ix2 i k) - q) (Ideal.ofBits .f32 0x3D4CCCCD#32))))
      (spread2 (α := EReal) (low pos) _ _ i k)
  have key : ∀ i : Fin 10000, ∃ v n : ℕ, v < n ∧ n ≤ 4001 ∧ vox pos (ix2 i k) = BitVec.ofNat 32 v ∧ num pos (ix1 k) = BitVec.ofNat 32 n := fun i => by
    obtain ⟨r, er, -, -⟩ := real_between _ (hp i k).1 (hp i k).2
    have h1 : l ≤ r := EReal.coe_le_coe_iff.1 (by rw [← el, ← er]; exact l1 i)
    have h2 : r ≤ g := EReal.coe_le_coe_iff.1 (by rw [← eg, ← er]; exact g1 i)
    rw [hnum, hvox i r er]
    exact voxel r l g h1 h2 (by linarith)
  obtain ⟨_, n, -, hn, -, en⟩ := key 0
  refine ⟨n, hn, en, fun i => ?_⟩
  obtain ⟨v, n', hv, hn', ev, en'⟩ := key i
  have := congrArg BitVec.toNat (en'.symm.trans en)
  rw [BitVec.toNat_ofNat, BitVec.toNat_ofNat, Nat.mod_eq_of_lt (by omega), Nat.mod_eq_of_lt (by omega)] at this
  exact ⟨v, this ▸ hv, ev⟩

/-- Nodes of one cluster have one batch number. -/
theorem same_batch (pos : FVec Ideal S10000x3 .f32) (batch : IVec S10000 32)
    (hp : ∀ (i : Fin 10000) (k : Fin 2), ((-100 : ℝ) : EReal) ≤ plane pos (ix2 i k) ∧ plane pos (ix2 i k) ≤ ((100 : ℝ) : EReal))
    (hb : ∀ i : Fin 10000, (batch (ix1 i)).toNat < 8) (i j : Fin 10000) (e : clusterAt pos batch i = clusterAt pos batch j) :
    batch (ix1 i) = batch (ix1 j) := by
  obtain ⟨n0, hn0, en0, h0⟩ := grid pos hp 0
  obtain ⟨n1, hn1, en1, h1⟩ := grid pos hp 1
  obtain ⟨v0, hv0, ev0⟩ := h0 i
  obtain ⟨v1, hv1, ev1⟩ := h1 i
  obtain ⟨w0, hw0, ew0⟩ := h0 j
  obtain ⟨w1, hw1, ew1⟩ := h1 j
  have hw : ∀ b : BitVec 32, b = BitVec.ofNat 32 b.toNat := fun b => BitVec.eq_of_toNat_eq (by rw [BitVec.toNat_ofNat, Nat.mod_eq_of_lt b.isLt])
  refine BitVec.eq_of_toNat_eq (batch_of n0 n1 v0 v1 w0 w1 _ _ hn0 hn1 hv0 hv1 hw0 hw1 (hb i) (hb j) ?_)
  unfold clusterAt at e
  rw [en0, en1, ev0, ev1, ew0, ew1] at e
  rw [← hw, ← hw]
  exact e

/-- What the precondition says: the coordinates are between −100 and 100, the batch numbers between 0 and 7. -/
theorem pre_says [Cert.Pre_inputs.Facts] (x : FVec Ideal S10000x128 .f32) (pos : FVec Ideal S10000x3 .f32) (batch : IVec S10000 32) (edge : IVec S2x320000 32)
    (h : Cert.Pre_inputs.fn (F := Ideal) x pos batch edge = fun _ => 1#1) :
    (∀ (i : Fin 10000) (k : Fin 2), ((-100 : ℝ) : EReal) ≤ plane pos (ix2 i k) ∧ plane pos (ix2 i k) ≤ ((100 : ℝ) : EReal))
      ∧ ∀ i : Fin 10000, (batch (ix1 i)).toNat < 8 := by
  haveI : Subsingleton (Cert.Pre_inputs.S_).Idx := ⟨fun a b => funext fun d => Fin.elim0 d⟩
  obtain ⟨h1, h2⟩ := IntOp.andi_eq_one.1 (congrFun h (fun d => Fin.elim0 d))
  refine ⟨fun i k => ?_, fun i => ?_⟩
  · obtain ⟨a, b⟩ := IntOp.andi_eq_one.1 (Host.reduce_andi_all _ _ _ _ _ h1 (ix2 i k))
    have a' := (Ideal.cmp_oge_eq_one _ _).1 a
    have b' := (Ideal.cmp_ole_eq_one _ _).1 b
    rw [← neg_hundred_bits, ← hundred_bits]
    exact ⟨a', b'⟩
  · obtain ⟨a, b⟩ := IntOp.andi_eq_one.1 (Host.reduce_andi_all _ _ _ _ _ h2 (ix1 i))
    have a' : IntOp.cmpi .sge (batch (ix1 i)) 0#32 = 1#1 := a
    have b' : IntOp.cmpi .slt (batch (ix1 i)) 8#32 = 1#1 := b
    rw [WordCmp.cmpi_sge_eq] at a'
    rw [WordCmp.cmpi_slt_eq] at b'
    have a'' : (0#32 : BitVec 32).toInt ≤ (batch (ix1 i)).toInt := by by_contra q; rw [decide_eq_false q] at a'; exact absurd a' (by decide)
    have b'' : (batch (ix1 i)).toInt < (8#32 : BitVec 32).toInt := by by_contra q; rw [decide_eq_false q] at b'; exact absurd b' (by decide)
    rw [show (0#32 : BitVec 32).toInt = 0 from by decide] at a''
    rw [show (8#32 : BitVec 32).toInt = 8 from by decide] at b''
    have := (batch (ix1 i)).isLt
    rw [BitVec.toInt_eq_toNat_cond] at a'' b''
    split at a'' <;> omega

end Cert.KernelIdeal.Seg

end
-- ==== Proof.EqualD.lean ====
/- The results of the kernel's run and of the reference's, over the extended reals, are the same numbers: the batch numbers. -/
module

public import proofs.«01_k».proof.Proof.EqualC

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool

/-- One number taken as many times as there are members, over how many there are, is that number. -/
theorem mean_const {ι : Type} (A : Finset ι) (hA : A.Nonempty) (b : ℝ) :
    Ideal.div (∑ _i ∈ A, (b : EReal)) (max (∑ _i ∈ A, ((1 : ℝ) : EReal)) ((1 : ℝ) : EReal)) = (b : EReal) := by
  have hc : (1 : ℝ) ≤ (A.card : ℝ) := by exact_mod_cast hA.card_pos
  have hs : ∀ a : ℝ, (∑ _i ∈ A, (a : EReal)) = ((A.card * a : ℝ) : EReal) := fun a => by
    rw [Finset.sum_const, EReal.coe_mul, EReal.nsmul_eq_mul]
    rfl
  rw [hs, hs, mul_one, max_eq_left (EReal.coe_le_coe_iff.2 hc), Ideal.div_coe (by linarith), ← EReal.coe_mul]
  congr 1
  field_simp

/-- How many members there are is above zero just when there is one. -/
theorem count_pos {ι : Type} (A : Finset ι) : (0 : EReal) < ∑ _i ∈ A, ((1 : ℝ) : EReal) ↔ A.Nonempty := by
  have hs : (∑ _i ∈ A, ((1 : ℝ) : EReal)) = ((A.card : ℝ) : EReal) := by
    rw [Finset.sum_const, EReal.nsmul_eq_mul, EReal.coe_one, mul_one]
    rfl
  rw [hs, ← EReal.coe_zero, EReal.coe_lt_coe_iff, Nat.cast_pos, Finset.card_pos]

/-- The fifth column of the averages, as the kernel's host reads it. -/
theorem fifth (v : FVec Ideal S10000x8 .f32) (s : Fin 10000) :
    fptosi (F := Ideal) (φ := .f32) 32 (shapeCast S10000 (extractStridedSlice S10000x1 ![0, 4] v slices_S10000x8_S10000x1_0_4) shapeCasts_S10000x1_S10000) (ix1 s)
      = Ideal.fptosi 32 (v (ix2 s 4)) :=
  congrArg (fun z : EReal => Ideal.fptosi 32 z) ((cast_col (α := EReal) (n := 10000) _ shapeCasts_S10000x1_S10000 s).trans (congrArg v (funext fun a => by
    match a with
    | ⟨0, _⟩ => exact Fin.ext (Nat.zero_add _)
    | ⟨1, _⟩ => rfl)))

/-- Where every node of a segment has the segment's batch number, the mean of them is the greatest of them. -/
theorem batch_eq (T : IVec S10000 32) (hlt : ∀ y, (T y).toNat < 10000) (pos : FVec Ideal S10000x3 .f32) (batch : IVec S10000 32)
    (hsame : ∀ i j : Fin 10000, T (ix1 i) = T (ix1 j) → batch (ix1 i) = batch (ix1 j)) (hb : ∀ i : Fin 10000, (batch (ix1 i)).toNat < 8) :
    fptosi (F := Ideal) (φ := .f32) 32 (shapeCast S10000 (extractStridedSlice S10000x1 ![0, 4] (k0_pay6 (acc5 T (augOf pos batch) 10000)) slices_S10000x8_S10000x1_0_4) shapeCasts_S10000x1_S10000)
      = Host.scatter Cert.ReferenceIdeal.scatter_S10000_S10000x1_S10000_n_0_0_1 IntOp.maxsi
          (broadcastInDim Cert.ReferenceIdeal.S10000 ![] Cert.ReferenceIdeal.Gen.bcast_S_S10000 (constantI Cert.ReferenceIdeal.S_ 32 2147483648#32))
          (broadcastInDim Cert.ReferenceIdeal.S10000x1 ![0] Cert.ReferenceIdeal.Gen.bcast_S10000_S10000x1_0 T) batch := by
  funext p
  obtain ⟨s, rfl⟩ : ∃ s : Fin 10000, p = ix1 s := ⟨p 0, funext fun a => by obtain rfl : a = 0 := Subsingleton.elim (α := Fin 1) _ _; rfl⟩
  have h31 : ∀ i : Fin 10000, (T (ix1 i)).toNat < 2 ^ 31 := fun i => (hlt _).trans (by norm_num)
  have h0 : (Scalar.ofBits (F := Ideal) .f32 0x00000000#32 : EReal) = 0 := Ideal.ofBits_zero_f32
  have hcnt : acc5 (F := Ideal) T (augOf pos batch) 10000 (ix2 s 3) = ∑ _i ∈ members T s, ((1 : ℝ) : EReal) :=
    (acc5_at T _ s 3).trans (Finset.sum_congr rfl fun i _ => (aug_one pos batch i).trans one_bits)
  have hsum : acc5 (F := Ideal) T (augOf pos batch) 10000 (ix2 s 4) = ∑ i ∈ members T s, (((batch (ix1 i)).toInt : ℝ) : EReal) :=
    (acc5_at T _ s 4).trans (Finset.sum_congr rfl fun i _ => aug_batch pos batch i)
  rw [fifth, pay6_at, show IntOp.cmpi .eq (BitVec.ofNat 32 (4 : Fin 8).val) 4#32 = 1#1 from rfl, pick_yes, hcnt, hsum]
  by_cases hne : (members T s).Nonempty
  · obtain ⟨k, hk⟩ := hne
    have hk' : (T (ix1 k)).toNat = s.val := (Finset.mem_filter.1 hk).2
    have hall : ∀ i : Fin 10000, (T (ix1 i)).toNat = s.val → batch (ix1 i) = batch (ix1 k) := fun i hi => hsame i k (BitVec.eq_of_toNat_eq (hi.trans hk'.symm))
    have hpos : FloatOps.cmpf (F := Ideal) (φ := .f32) .ogt (∑ _i ∈ members T s, ((1 : ℝ) : EReal)) (Scalar.ofBits .f32 0x00000000#32) = 1#1 :=
      (Ideal.cmp_ogt_eq_one _ _).2 (lt_of_eq_of_lt h0 ((count_pos _).2 ⟨k, hk⟩))
    rw [hpos, pick_yes]
    have hmean : FloatOps.divf (F := Ideal) (φ := .f32) (∑ i ∈ members T s, (((batch (ix1 i)).toInt : ℝ) : EReal))
        (FloatOps.maximumf (F := Ideal) (φ := .f32) (∑ _i ∈ members T s, ((1 : ℝ) : EReal)) (Scalar.ofBits .f32 0x3F800000#32)) = (((batch (ix1 k)).toInt : ℝ) : EReal) := by
      rw [Finset.sum_congr rfl fun i hi => congrArg (fun b : BitVec 32 => ((b.toInt : ℝ) : EReal)) (hall i (Finset.mem_filter.1 hi).2)]
      exact (congrArg (fun o : EReal => Ideal.div _ (max _ o)) one_bits).trans (mean_const _ ⟨k, hk⟩ _)
    rw [hmean, fptosi_word]
    refine (scatter_const (N := 10000) Cert.ReferenceIdeal.scatter_S10000_S10000x1_S10000_n_0_0_1 rfl rfl rfl IntOp.maxsi _ _ T (col_at T _) h31 batch s (batch (ix1 k)) ?_ ?_ hall k hk').symm
    · show IntOp.maxsi 2147483648#32 (batch (ix1 k)) = batch (ix1 k)
      refine if_neg ?_
      rw [BitVec.slt_eq_decide, decide_eq_true_eq, not_lt]
      exact BitVec.le_toInt _
    · exact ite_self _
  · have hnone : ∀ i : Fin 10000, (T (ix1 i)).toNat ≠ s.val := fun i hi => hne ⟨i, Finset.mem_filter.2 ⟨Finset.mem_univ _, hi⟩⟩
    have hzero : FloatOps.cmpf (F := Ideal) (φ := .f32) .ogt (∑ _i ∈ members T s, ((1 : ℝ) : EReal)) (Scalar.ofBits .f32 0x00000000#32) = 0#1 := by
      have q : ¬ (Scalar.ofBits (F := Ideal) .f32 0x00000000#32 : EReal) < ∑ _i ∈ members T s, ((1 : ℝ) : EReal) := fun q => hne ((count_pos _).1 (lt_of_eq_of_lt h0.symm q))
      exact congrArg BitVec.ofBool (decide_eq_false q)
    rw [hzero, pick_no]
    refine Eq.trans ?_ (scatter_none (N := 10000) Cert.ReferenceIdeal.scatter_S10000_S10000x1_S10000_n_0_0_1 rfl rfl rfl IntOp.maxsi _ _ T (col_at T _) h31 batch s hnone).symm
    refine (congrArg (fun z : EReal => Ideal.fptosi 32 z) least_bits).trans ((fptosi_int _ (by norm_num) (by norm_num)).trans ?_)
    rfl

end Cert.KernelIdeal.Seg

end
-- ==== Proof.EqualE.lean ====
/- The two runs together: from the same arguments the kernel's program and the reference end with the same four results. -/
module

public import proofs.«01_k».proof.Defs
public import proofs.«01_k».proof.Proof.EqualD

@[expose] public section

set_option maxRecDepth 16384

noncomputable section

namespace Cert.KernelIdeal.Seg

open Idealize.ShloMosaic Idealize.ShloMosaic.TcCoe Idealize.ShloMosaic.StableHlo Idealize.SL.Sem
open Cert.KernelIdeal Cert.KernelIdeal.Gen SegPool
open Cert.ReferenceIdeal.Value (res_main_v78 res_main_v86)

/-- Entries of the kernel's table that are equal stand at nodes of equal batch numbers. -/
theorem table_same [Cert.Pre_inputs.Facts] (m : (ℓ : Loc nD τ sig) → Buf (Elt Ideal) ℓ) (c : Dev nD) (hpre : Cert.Pre_KernelIdeal_inputs m) (i j : Fin 10000)
    (e : inv (cl m c) (ix1 i) = inv (cl m c) (ix1 j)) :
    W0 m c (Proc.devRef .tc main_arg2) (ix1 i) = W0 m c (Proc.devRef .tc main_arg2) (ix1 j) := by
  obtain ⟨hp, hb⟩ := pre_says _ _ _ _ (hpre c)
  have q := inv_same (cl m c) i j e
  exact same_batch _ _ hp hb i j ((cl_at m c i).symm.trans (Eq.trans q (cl_at m c j)))

/-- The relabelled edges are the reference's. -/
theorem edge_eq (T : IVec S10000 32) (edge : IVec S2x320000 32) :
    Host.gather gather_S10000_S2x320000x1_S2x320000_n_0_n_n_0_2_1 T (broadcastInDim S2x320000x1 ![0, 1] bcast_S2x320000_S2x320000x1_0_1
        (select (cmpi .slt edge (broadcastInDim S2x320000 ![] bcast_S_S2x320000 (constantI S_ 32 0#32)))
          (addi edge (broadcastInDim S2x320000 ![] bcast_S_S2x320000 (constantI S_ 32 10000#32))) edge))
      = Host.gather Cert.ReferenceIdeal.gather_S10000_S2x320000x1_S2x320000_n_0_n_n_0_2_1 T (broadcastInDim Cert.ReferenceIdeal.S2x320000x1 ![0, 1] Cert.ReferenceIdeal.Gen.bcast_S2x320000_S2x320000x1_0_1
        (select (cmpi .slt edge (broadcastInDim Cert.ReferenceIdeal.S2x320000 ![] Cert.ReferenceIdeal.Gen.bcast_S_S2x320000 (constantI Cert.ReferenceIdeal.S_ 32 0#32)))
          (addi edge (broadcastInDim Cert.ReferenceIdeal.S2x320000 ![] Cert.ReferenceIdeal.Gen.bcast_S_S2x320000 (constantI Cert.ReferenceIdeal.S_ 32 10000#32))) edge)) := rfl

set_option maxHeartbeats 2000000 in
/-- THE VALUE CLAIM. -/
theorem agree [Cert.Pre_inputs.Facts] : Cert.algebraic_KernelIdeal_ReferenceIdeal_pre_inputs := by
  intro m g m' g' hpre hm
  refine ⟨fun c => W17 m c (Proc.devRef .tc main_v84_0), fun c => W17 m c (Proc.devRef .tc main_v85), fun c => W17 m c (Proc.devRef .tc main_v95),
    fun c => W17 m c (Proc.devRef .tc main_v88), ?_, ?_⟩
  · refine (θ_run defs _ _).mono (fun r h c => ?_) (run_main m g (table_lt m))
    exact ⟨h.1 c (Proc.devRef .tc main_v84_0) (by decide), h.1 c (Proc.devRef .tc main_v85) (by decide), h.1 c (Proc.devRef .tc main_v95) (by decide),
      h.1 c (Proc.devRef .tc main_v88) (by decide),
      (h.1 c (Proc.devRef .tc main_arg0) (by decide)).trans (W17_arg0 m c), (h.1 c (Proc.devRef .tc main_arg1) (by decide)).trans (W17_arg1 m c),
      (h.1 c (Proc.devRef .tc main_arg2) (by decide)).trans (W17_arg2 m c), (h.1 c (Proc.devRef .tc main_arg3) (by decide)).trans (W17_arg3 m c)⟩
  · refine (θ_run Cert.ReferenceIdeal.defs _ _).mono (fun r h c => ?_) (Cert.ReferenceIdeal.Value.run (F := Ideal) m' g')
    obtain ⟨r0, r1, r2, r3, args⟩ := h c
    have e0 : launchContents m' c (Proc.devRef .tc Cert.ReferenceIdeal.main_arg0) = W0 m c (Proc.devRef .tc main_arg0) := (hm c).1
    have e1 : launchContents m' c (Proc.devRef .tc Cert.ReferenceIdeal.main_arg1) = W0 m c (Proc.devRef .tc main_arg1) := (hm c).2.1
    have e2 : launchContents m' c (Proc.devRef .tc Cert.ReferenceIdeal.main_arg2) = W0 m c (Proc.devRef .tc main_arg2) := (hm c).2.2.1
    have e3 : launchContents m' c (Proc.devRef .tc Cert.ReferenceIdeal.main_arg3) = W0 m c (Proc.devRef .tc main_arg3) := (hm c).2.2.2
    have hT : res_main_v78 (launchContents m' c) = inv (cl m c) := table_eq m c _ e1 e2
    have hlt : ∀ y, (inv (cl m c) y).toNat < 10000 := inv_lt _
    refine ⟨r0.trans ?_, r1.trans ?_, r2.trans ?_, r3.trans ?_, args⟩
    · rw [← x_eq _ _ hT, e0]
      exact (W17_x m c).symm
    · rw [hT, e1]
      exact ((W17_pos m c).trans (pos_eq (launchContents m' c) _ hlt _ _)).symm
    · rw [hT, e3]
      exact ((W17_edge m c).trans (edge_eq _ _)).symm
    · rw [hT, e2]
      exact ((W17_batch m c).trans (batch_eq _ hlt _ _ (table_same m c hpre) (pre_says _ _ _ _ (hpre c)).2)).symm

end Cert.KernelIdeal.Seg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.EqualE
public import proofs.«01_k».proof.Proof.ValK
public import Idealize.ShloMosaic.Adequacy
public import Idealize.ShloMosaic.Init

@[expose] public section

noncomputable section

namespace Cert.Proof

open Idealize.ShloMosaic Idealize.SL.Sem Cert.Kernel

/-- The shapes the precondition's operations take are right. -/
theorem pre_facts : Cert.Pre_inputs.Facts where
  slices_S10000x3_S10000x2_0_0 := by decide
  bcast_S_S10000x2 := by decide
  reducesTo_S10000x2_S_d0_1 := by decide
  h_S_ := by decide
  bcast_S_S10000 := by decide
  reducesTo_S10000_S_d0 := by decide

/-- The reference runs, its arguments end unchanged and its counters at zero. -/
theorem reference_quiet : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- THE CLAIM: the kernel's program runs and is quiet at the bits and at the extended reals, so is the reference, and at the extended reals they agree. -/
theorem claim : Cert.Claim :=
  ⟨Cert.Kernel.Gen.facts, Cert.KernelIdeal.Gen.facts, Cert.ReferenceIdeal.Gen.facts, pre_facts,
    fun m g _ => Cert.Kernel.Seg.frame_main (F := Bits) m g,
    fun m g _ => Cert.KernelIdeal.Seg.frame_main (F := Ideal) m g,
    fun m g _ => Cert.KernelIdeal.Seg.frame_main (F := Ideal) m g,
    reference_quiet, fun m g _ => reference_quiet m g trivial, trivial,
    @Cert.KernelIdeal.Seg.agree pre_facts⟩

end Cert.Proof

end
